-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S64x64x4096 : Shape := ⟨3, ![64, 64, 4096]⟩
abbrev S30 : Shape := ⟨1, ![30]⟩
abbrev S_ : Shape := ⟨0, ![]⟩
abbrev S1x64x4096 : Shape := ⟨3, ![1, 64, 4096]⟩
abbrev S64x4096 : Shape := ⟨2, ![64, 4096]⟩
abbrev S64x128 : Shape := ⟨2, ![64, 128]⟩

abbrev nBuf : Space → Nat
  | .hbm => 5
  | .vmem => 4
  | .smem => 2
  | _ => 0

abbrev bufTy : (tb : Table) → Fin (tcTables nBuf tb) → BufTy
  | .hbm, ⟨0, _⟩ => ⟨S256x4096, .fp8e4m3⟩
  | .hbm, ⟨1, _⟩ => ⟨S4096x128, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e4m3⟩
  | .local _ .vmem, ⟨1, _⟩ => ⟨S4096x128, .fp8e5m2⟩
  | .local _ .vmem, ⟨2, _⟩ => ⟨S4096x128, .f32⟩
  | .local _ .vmem, ⟨3, _⟩ => ⟨S64x64x4096, .fp8e4m3⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 1 125 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_13 : BitVec 32) : Fin 3 → Nat :=
  let c4_i32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c0_i32_10
  let c16_i32_11 : BitVec 32 := 16#32
  let v14 : BitVec 32 := Scalar.addi v13 c16_i32_11
  let c16_i32_12 : BitVec 32 := 16#32
  let v15 : BitVec 32 := Scalar.remsi v14 c16_i32_12
  let v16 : BitVec 32 := Scalar.muli c4_i32 v15
  let v17 : BitVec 32 := Scalar.addi v16 c0_i32_13
  let c0_i32_664 : BitVec 32 := 0#32
  let c0_i32_665 : BitVec 32 := 0#32
  ![v17.toNat, 0, 0]
def k0_off1_at (r : Fin 30) : BitVec 32 × BitVec 32 :=
  if r.val < 15 then
    if r.val < 7 then
      if r.val < 3 then
        if r.val < 1 then
          (0#32, 0#32)
        else
          if r.val < 2 then
            (0#32, 1#32)
          else
            (0#32, 2#32)
      else
        if r.val < 5 then
          if r.val < 4 then
            (0#32, 3#32)
          else
            (1#32, 0#32)
        else
          if r.val < 6 then
            (1#32, 1#32)
          else
            (1#32, 2#32)
    else
      if r.val < 11 then
        if r.val < 9 then
          if r.val < 8 then
            (1#32, 3#32)
          else
            (2#32, 0#32)
        else
          if r.val < 10 then
            (2#32, 1#32)
          else
            (2#32, 2#32)
      else
        if r.val < 13 then
          if r.val < 12 then
            (2#32, 3#32)
          else
            (3#32, 0#32)
        else
          if r.val < 14 then
            (3#32, 1#32)
          else
            (3#32, 2#32)
  else
    if r.val < 22 then
      if r.val < 18 then
        if r.val < 16 then
          (3#32, 3#32)
        else
          if r.val < 17 then
            (4#32, 0#32)
          else
            (4#32, 1#32)
      else
        if r.val < 20 then
          if r.val < 19 then
            (4#32, 2#32)
          else
            (4#32, 3#32)
        else
          if r.val < 21 then
            (5#32, 0#32)
          else
            (5#32, 1#32)
    else
      if r.val < 26 then
        if r.val < 24 then
          if r.val < 23 then
            (5#32, 2#32)
          else
            (5#32, 3#32)
        else
          if r.val < 25 then
            (6#32, 0#32)
          else
            (6#32, 1#32)
      else
        if r.val < 28 then
          if r.val < 27 then
            (6#32, 2#32)
          else
            (6#32, 3#32)
        else
          if r.val < 29 then
            (7#32, 0#32)
          else
            (7#32, 1#32)
def k0_dev3 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_662 : BitVec 32 := 1#32
  let v669 : BitVec 32 := Scalar.muli v7 c1_i32_662
  let v670 : BitVec 32 := Scalar.addi c0_i32_663 v669
  v670.toNat
def k0_off2 (d0 : Dev nD) (c0_i32_332 : BitVec 32) (c0_i32_336 : BitVec 32) : Fin 3 → Nat :=
  let c4_i32_335 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v341 : BitVec 32 := Scalar.addi v2 c0_i32_332
  let c16_i32_333 : BitVec 32 := 16#32
  let v342 : BitVec 32 := Scalar.addi v341 c16_i32_333
  let c16_i32_334 : BitVec 32 := 16#32
  let v343 : BitVec 32 := Scalar.remsi v342 c16_i32_334
  let v344 : BitVec 32 := Scalar.muli c4_i32_335 v343
  let v345 : BitVec 32 := Scalar.addi v344 c0_i32_336
  let c0_i32_672 : BitVec 32 := 0#32
  let c0_i32_673 : BitVec 32 := 0#32
  ![v345.toNat, 0, 0]
def k0_off2_at (r : Fin 30) : BitVec 32 × BitVec 32 :=
  if r.val < 15 then
    if r.val < 7 then
      if r.val < 3 then
        if r.val < 1 then
          (0#32, 0#32)
        else
          if r.val < 2 then
            (0#32, 1#32)
          else
            (0#32, 2#32)
      else
        if r.val < 5 then
          if r.val < 4 then
            (0#32, 3#32)
          else
            (1#32, 0#32)
        else
          if r.val < 6 then
            (1#32, 1#32)
          else
            (1#32, 2#32)
    else
      if r.val < 11 then
        if r.val < 9 then
          if r.val < 8 then
            (1#32, 3#32)
          else
            (2#32, 0#32)
        else
          if r.val < 10 then
            (2#32, 1#32)
          else
            (2#32, 2#32)
      else
        if r.val < 13 then
          if r.val < 12 then
            (2#32, 3#32)
          else
            (3#32, 0#32)
        else
          if r.val < 14 then
            (3#32, 1#32)
          else
            (3#32, 2#32)
  else
    if r.val < 22 then
      if r.val < 18 then
        if r.val < 16 then
          (3#32, 3#32)
        else
          if r.val < 17 then
            (4#32, 0#32)
          else
            (4#32, 1#32)
      else
        if r.val < 20 then
          if r.val < 19 then
            (4#32, 2#32)
          else
            (4#32, 3#32)
        else
          if r.val < 21 then
            (5#32, 0#32)
          else
            (5#32, 1#32)
    else
      if r.val < 26 then
        if r.val < 24 then
          if r.val < 23 then
            (5#32, 2#32)
          else
            (5#32, 3#32)
        else
          if r.val < 25 then
            (6#32, 0#32)
          else
            (6#32, 1#32)
      else
        if r.val < 28 then
          if r.val < 27 then
            (6#32, 2#32)
          else
            (6#32, 3#32)
        else
          if r.val < 29 then
            (7#32, 2#32)
          else
            (7#32, 3#32)
def k0_dev4 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_670 : BitVec 32 := 1#32
  let v678 : BitVec 32 := Scalar.muli v5 c1_i32_670
  let v679 : BitVec 32 := Scalar.addi c0_i32_671 v678
  v679.toNat
def k0_dev5 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_678 : BitVec 32 := 1#32
  let v687 : BitVec 32 := Scalar.muli v7 c1_i32_678
  let v688 : BitVec 32 := Scalar.addi c0_i32_679 v687
  v688.toNat
def k0_dev6 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_685 : BitVec 32 := 1#32
  let v696 : BitVec 32 := Scalar.muli v5 c1_i32_685
  let v697 : BitVec 32 := Scalar.addi c0_i32_686 v696
  v697.toNat
def k0_dev7 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_693 : BitVec 32 := 1#32
  let v705 : BitVec 32 := Scalar.muli v7 c1_i32_693
  let v706 : BitVec 32 := Scalar.addi c0_i32_694 v705
  v706.toNat
def k0_dev8 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_700 : BitVec 32 := 1#32
  let v714 : BitVec 32 := Scalar.muli v5 c1_i32_700
  let v715 : BitVec 32 := Scalar.addi c0_i32_701 v714
  v715.toNat
def k0_dev9 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_708 : BitVec 32 := 1#32
  let v723 : BitVec 32 := Scalar.muli v7 c1_i32_708
  let v724 : BitVec 32 := Scalar.addi c0_i32_709 v723
  v724.toNat
def k0_dev10 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_715 : BitVec 32 := 1#32
  let v732 : BitVec 32 := Scalar.muli v5 c1_i32_715
  let v733 : BitVec 32 := Scalar.addi c0_i32_716 v732
  v733.toNat
def k0_off3 (d0 : Dev nD) (c0_i32_722 : BitVec 32) : Fin 2 → Nat :=
  let c4_i32_721 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v741 : BitVec 32 := Scalar.muli c4_i32_721 v2
  let v742 : BitVec 32 := Scalar.addi v741 c0_i32_722
  let c64_i32_731 : BitVec 32 := 64#32
  let v763 : BitVec 32 := Scalar.muli v742 c64_i32_731
  let v764 : Index := Scalar.indexCast v763
  let c0_732 : Index := 0#32
  ![v764.toNat, 0]
def k0_dev11 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_782 : BitVec 32 := 1#32
  let v848 : BitVec 32 := Scalar.muli v7 c1_i32_782
  let v849 : BitVec 32 := Scalar.addi c0_i32_783 v848
  v849.toNat
def k0_dev12 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_798 : BitVec 32 := 1#32
  let v865 : BitVec 32 := Scalar.muli v5 c1_i32_798
  let v866 : BitVec 32 := Scalar.addi c0_i32_799 v865
  v866.toNat
def k0_off4 (d0 : Dev nD) (c0_i32_156 : BitVec 32) (c0_i32_160 : BitVec 32) : Fin 3 → Nat :=
  let c4_i32_159 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_155 : BitVec 32 := 1#32
  let v163 : BitVec 32 := Scalar.subi v2 c1_i32_155
  let v164 : BitVec 32 := Scalar.subi v163 c0_i32_156
  let c16_i32_157 : BitVec 32 := 16#32
  let v165 : BitVec 32 := Scalar.addi v164 c16_i32_157
  let c16_i32_158 : BitVec 32 := 16#32
  let v166 : BitVec 32 := Scalar.remsi v165 c16_i32_158
  let v167 : BitVec 32 := Scalar.muli c4_i32_159 v166
  let v168 : BitVec 32 := Scalar.addi v167 c0_i32_160
  let v875 : Index := Scalar.indexCast v168
  let c0_804 : Index := 0#32
  let c0_805 : Index := 0#32
  ![v875.toNat, 0, 0]
def k0_off5 (d0 : Dev nD) (c0_i32_156 : BitVec 32) (c0_i32_160 : BitVec 32) : Fin 2 → Nat :=
  let c4_i32_159 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_155 : BitVec 32 := 1#32
  let v163 : BitVec 32 := Scalar.subi v2 c1_i32_155
  let v164 : BitVec 32 := Scalar.subi v163 c0_i32_156
  let c16_i32_157 : BitVec 32 := 16#32
  let v165 : BitVec 32 := Scalar.addi v164 c16_i32_157
  let c16_i32_158 : BitVec 32 := 16#32
  let v166 : BitVec 32 := Scalar.remsi v165 c16_i32_158
  let v167 : BitVec 32 := Scalar.muli c4_i32_159 v166
  let v168 : BitVec 32 := Scalar.addi v167 c0_i32_160
  let c64_i32_814 : BitVec 32 := 64#32
  let v896 : BitVec 32 := Scalar.muli v168 c64_i32_814
  let v897 : Index := Scalar.indexCast v896
  let c0_815 : Index := 0#32
  ![v897.toNat, 0]
def k0_off6 (d0 : Dev nD) (c0_i32_483 : BitVec 32) (c0_i32_487 : BitVec 32) : Fin 3 → Nat :=
  let c4_i32_486 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_482 : BitVec 32 := 1#32
  let v491 : BitVec 32 := Scalar.addi v2 c1_i32_482
  let v492 : BitVec 32 := Scalar.addi v491 c0_i32_483
  let c16_i32_484 : BitVec 32 := 16#32
  let v493 : BitVec 32 := Scalar.addi v492 c16_i32_484
  let c16_i32_485 : BitVec 32 := 16#32
  let v494 : BitVec 32 := Scalar.remsi v493 c16_i32_485
  let v495 : BitVec 32 := Scalar.muli c4_i32_486 v494
  let v496 : BitVec 32 := Scalar.addi v495 c0_i32_487
  let v899 : Index := Scalar.indexCast v496
  let c0_816 : Index := 0#32
  let c0_817 : Index := 0#32
  ![v899.toNat, 0, 0]
def k0_off7 (d0 : Dev nD) (c0_i32_483 : BitVec 32) (c0_i32_487 : BitVec 32) : Fin 2 → Nat :=
  let c4_i32_486 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_482 : BitVec 32 := 1#32
  let v491 : BitVec 32 := Scalar.addi v2 c1_i32_482
  let v492 : BitVec 32 := Scalar.addi v491 c0_i32_483
  let c16_i32_484 : BitVec 32 := 16#32
  let v493 : BitVec 32 := Scalar.addi v492 c16_i32_484
  let c16_i32_485 : BitVec 32 := 16#32
  let v494 : BitVec 32 := Scalar.remsi v493 c16_i32_485
  let v495 : BitVec 32 := Scalar.muli c4_i32_486 v494
  let v496 : BitVec 32 := Scalar.addi v495 c0_i32_487
  let c64_i32_826 : BitVec 32 := 64#32
  let v920 : BitVec 32 := Scalar.muli v496 c64_i32_826
  let v921 : Index := Scalar.indexCast v920
  let c0_827 : Index := 0#32
  ![v921.toNat, 0]
def k0_dev13 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_838 : BitVec 32 := 1#32
  let v930 : BitVec 32 := Scalar.muli v7 c1_i32_838
  let v931 : BitVec 32 := Scalar.addi c0_i32_839 v930
  v931.toNat
def k0_dev14 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_854 : BitVec 32 := 1#32
  let v947 : BitVec 32 := Scalar.muli v5 c1_i32_854
  let v948 : BitVec 32 := Scalar.addi c0_i32_855 v947
  v948.toNat
def k0_dev15 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_894 : BitVec 32 := 1#32
  let v1012 : BitVec 32 := Scalar.muli v7 c1_i32_894
  let v1013 : BitVec 32 := Scalar.addi c0_i32_895 v1012
  v1013.toNat
def k0_dev16 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_910 : BitVec 32 := 1#32
  let v1029 : BitVec 32 := Scalar.muli v5 c1_i32_910
  let v1030 : BitVec 32 := Scalar.addi c0_i32_911 v1029
  v1030.toNat
def k0_dev17 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_950 : BitVec 32 := 1#32
  let v1094 : BitVec 32 := Scalar.muli v7 c1_i32_950
  let v1095 : BitVec 32 := Scalar.addi c0_i32_951 v1094
  v1095.toNat
def k0_dev18 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_966 : BitVec 32 := 1#32
  let v1111 : BitVec 32 := Scalar.muli v5 c1_i32_966
  let v1112 : BitVec 32 := Scalar.addi c0_i32_967 v1111
  v1112.toNat
def k0_dev19 (d0 : Dev nD) : Nat :=
  let c0_i32_1007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1006 : BitVec 32 := 1#32
  let v1177 : BitVec 32 := Scalar.muli v7 c1_i32_1006
  let v1178 : BitVec 32 := Scalar.addi c0_i32_1007 v1177
  v1178.toNat
def k0_dev20 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1022 : BitVec 32 := 1#32
  let v1195 : BitVec 32 := Scalar.muli v5 c1_i32_1022
  let v1196 : BitVec 32 := Scalar.addi c0_i32_1023 v1195
  v1196.toNat
def k0_dev21 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1061 : BitVec 32 := 1#32
  let v1261 : BitVec 32 := Scalar.muli v7 c1_i32_1061
  let v1262 : BitVec 32 := Scalar.addi c0_i32_1062 v1261
  v1262.toNat
def k0_dev22 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1077 : BitVec 32 := 1#32
  let v1279 : BitVec 32 := Scalar.muli v5 c1_i32_1077
  let v1280 : BitVec 32 := Scalar.addi c0_i32_1078 v1279
  v1280.toNat
def k0_dev23 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1116 : BitVec 32 := 1#32
  let v1345 : BitVec 32 := Scalar.muli v7 c1_i32_1116
  let v1346 : BitVec 32 := Scalar.addi c0_i32_1117 v1345
  v1346.toNat
def k0_dev24 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1132 : BitVec 32 := 1#32
  let v1363 : BitVec 32 := Scalar.muli v5 c1_i32_1132
  let v1364 : BitVec 32 := Scalar.addi c0_i32_1133 v1363
  v1364.toNat
def k0_dev25 (d0 : Dev nD) : Nat :=
  let c0_i32_1172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1171 : BitVec 32 := 1#32
  let v1429 : BitVec 32 := Scalar.muli v7 c1_i32_1171
  let v1430 : BitVec 32 := Scalar.addi c0_i32_1172 v1429
  v1430.toNat
def k0_dev26 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1187 : BitVec 32 := 1#32
  let v1447 : BitVec 32 := Scalar.muli v5 c1_i32_1187
  let v1448 : BitVec 32 := Scalar.addi c0_i32_1188 v1447
  v1448.toNat
def k0_dev27 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1226 : BitVec 32 := 1#32
  let v1513 : BitVec 32 := Scalar.muli v7 c1_i32_1226
  let v1514 : BitVec 32 := Scalar.addi c0_i32_1227 v1513
  v1514.toNat
def k0_dev28 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1242 : BitVec 32 := 1#32
  let v1531 : BitVec 32 := Scalar.muli v5 c1_i32_1242
  let v1532 : BitVec 32 := Scalar.addi c0_i32_1243 v1531
  v1532.toNat
def k0_dev29 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1281 : BitVec 32 := 1#32
  let v1597 : BitVec 32 := Scalar.muli v7 c1_i32_1281
  let v1598 : BitVec 32 := Scalar.addi c0_i32_1282 v1597
  v1598.toNat
def k0_dev30 (d0 : Dev nD) : Nat :=
  let c0_i32_1298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1297 : BitVec 32 := 1#32
  let v1615 : BitVec 32 := Scalar.muli v5 c1_i32_1297
  let v1616 : BitVec 32 := Scalar.addi c0_i32_1298 v1615
  v1616.toNat
def k0_dev31 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1336 : BitVec 32 := 1#32
  let v1681 : BitVec 32 := Scalar.muli v7 c1_i32_1336
  let v1682 : BitVec 32 := Scalar.addi c0_i32_1337 v1681
  v1682.toNat
def k0_dev32 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1352 : BitVec 32 := 1#32
  let v1699 : BitVec 32 := Scalar.muli v5 c1_i32_1352
  let v1700 : BitVec 32 := Scalar.addi c0_i32_1353 v1699
  v1700.toNat
def k0_dev33 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1391 : BitVec 32 := 1#32
  let v1765 : BitVec 32 := Scalar.muli v7 c1_i32_1391
  let v1766 : BitVec 32 := Scalar.addi c0_i32_1392 v1765
  v1766.toNat
def k0_dev34 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1407 : BitVec 32 := 1#32
  let v1783 : BitVec 32 := Scalar.muli v5 c1_i32_1407
  let v1784 : BitVec 32 := Scalar.addi c0_i32_1408 v1783
  v1784.toNat
def k0_dev35 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1447 : BitVec 32 := 1#32
  let v1849 : BitVec 32 := Scalar.muli v7 c1_i32_1447
  let v1850 : BitVec 32 := Scalar.addi c0_i32_1448 v1849
  v1850.toNat
def k0_dev36 (d0 : Dev nD) : Nat :=
  let c0_i32_1464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1463 : BitVec 32 := 1#32
  let v1867 : BitVec 32 := Scalar.muli v5 c1_i32_1463
  let v1868 : BitVec 32 := Scalar.addi c0_i32_1464 v1867
  v1868.toNat
def k0_dev37 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1502 : BitVec 32 := 1#32
  let v1933 : BitVec 32 := Scalar.muli v7 c1_i32_1502
  let v1934 : BitVec 32 := Scalar.addi c0_i32_1503 v1933
  v1934.toNat
def k0_dev38 (d0 : Dev nD) : Nat :=
  let c0_i32_1519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1518 : BitVec 32 := 1#32
  let v1951 : BitVec 32 := Scalar.muli v5 c1_i32_1518
  let v1952 : BitVec 32 := Scalar.addi c0_i32_1519 v1951
  v1952.toNat
def k0_dev39 (d0 : Dev nD) : Nat :=
  let c0_i32_1558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1557 : BitVec 32 := 1#32
  let v2017 : BitVec 32 := Scalar.muli v7 c1_i32_1557
  let v2018 : BitVec 32 := Scalar.addi c0_i32_1558 v2017
  v2018.toNat
def k0_dev40 (d0 : Dev nD) : Nat :=
  let c0_i32_1574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1573 : BitVec 32 := 1#32
  let v2035 : BitVec 32 := Scalar.muli v5 c1_i32_1573
  let v2036 : BitVec 32 := Scalar.addi c0_i32_1574 v2035
  v2036.toNat
def k0_dev41 (d0 : Dev nD) : Nat :=
  let c0_i32_1613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1612 : BitVec 32 := 1#32
  let v2101 : BitVec 32 := Scalar.muli v7 c1_i32_1612
  let v2102 : BitVec 32 := Scalar.addi c0_i32_1613 v2101
  v2102.toNat
def k0_dev42 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1628 : BitVec 32 := 1#32
  let v2119 : BitVec 32 := Scalar.muli v5 c1_i32_1628
  let v2120 : BitVec 32 := Scalar.addi c0_i32_1629 v2119
  v2120.toNat
def k0_dev43 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1667 : BitVec 32 := 1#32
  let v2185 : BitVec 32 := Scalar.muli v7 c1_i32_1667
  let v2186 : BitVec 32 := Scalar.addi c0_i32_1668 v2185
  v2186.toNat
def k0_dev44 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1683 : BitVec 32 := 1#32
  let v2203 : BitVec 32 := Scalar.muli v5 c1_i32_1683
  let v2204 : BitVec 32 := Scalar.addi c0_i32_1684 v2203
  v2204.toNat
def k0_dev45 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1722 : BitVec 32 := 1#32
  let v2269 : BitVec 32 := Scalar.muli v7 c1_i32_1722
  let v2270 : BitVec 32 := Scalar.addi c0_i32_1723 v2269
  v2270.toNat
def k0_dev46 (d0 : Dev nD) : Nat :=
  let c0_i32_1739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1738 : BitVec 32 := 1#32
  let v2287 : BitVec 32 := Scalar.muli v5 c1_i32_1738
  let v2288 : BitVec 32 := Scalar.addi c0_i32_1739 v2287
  v2288.toNat
def k0_dev47 (d0 : Dev nD) : Nat :=
  let c0_i32_1778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1777 : BitVec 32 := 1#32
  let v2353 : BitVec 32 := Scalar.muli v7 c1_i32_1777
  let v2354 : BitVec 32 := Scalar.addi c0_i32_1778 v2353
  v2354.toNat
def k0_dev48 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1793 : BitVec 32 := 1#32
  let v2371 : BitVec 32 := Scalar.muli v5 c1_i32_1793
  let v2372 : BitVec 32 := Scalar.addi c0_i32_1794 v2371
  v2372.toNat
def k0_dev49 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1832 : BitVec 32 := 1#32
  let v2437 : BitVec 32 := Scalar.muli v7 c1_i32_1832
  let v2438 : BitVec 32 := Scalar.addi c0_i32_1833 v2437
  v2438.toNat
def k0_dev50 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1848 : BitVec 32 := 1#32
  let v2455 : BitVec 32 := Scalar.muli v5 c1_i32_1848
  let v2456 : BitVec 32 := Scalar.addi c0_i32_1849 v2455
  v2456.toNat
def k0_dev51 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1887 : BitVec 32 := 1#32
  let v2521 : BitVec 32 := Scalar.muli v7 c1_i32_1887
  let v2522 : BitVec 32 := Scalar.addi c0_i32_1888 v2521
  v2522.toNat
def k0_dev52 (d0 : Dev nD) : Nat :=
  let c0_i32_1904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1903 : BitVec 32 := 1#32
  let v2539 : BitVec 32 := Scalar.muli v5 c1_i32_1903
  let v2540 : BitVec 32 := Scalar.addi c0_i32_1904 v2539
  v2540.toNat
def k0_dev53 (d0 : Dev nD) : Nat :=
  let c0_i32_1943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1942 : BitVec 32 := 1#32
  let v2605 : BitVec 32 := Scalar.muli v7 c1_i32_1942
  let v2606 : BitVec 32 := Scalar.addi c0_i32_1943 v2605
  v2606.toNat
def k0_dev54 (d0 : Dev nD) : Nat :=
  let c0_i32_1959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1958 : BitVec 32 := 1#32
  let v2623 : BitVec 32 := Scalar.muli v5 c1_i32_1958
  let v2624 : BitVec 32 := Scalar.addi c0_i32_1959 v2623
  v2624.toNat
def k0_dev55 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1997 : BitVec 32 := 1#32
  let v2689 : BitVec 32 := Scalar.muli v7 c1_i32_1997
  let v2690 : BitVec 32 := Scalar.addi c0_i32_1998 v2689
  v2690.toNat
def k0_dev56 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2013 : BitVec 32 := 1#32
  let v2707 : BitVec 32 := Scalar.muli v5 c1_i32_2013
  let v2708 : BitVec 32 := Scalar.addi c0_i32_2014 v2707
  v2708.toNat
def k0_dev57 (d0 : Dev nD) : Nat :=
  let c0_i32_2053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2052 : BitVec 32 := 1#32
  let v2773 : BitVec 32 := Scalar.muli v7 c1_i32_2052
  let v2774 : BitVec 32 := Scalar.addi c0_i32_2053 v2773
  v2774.toNat
def k0_dev58 (d0 : Dev nD) : Nat :=
  let c0_i32_2069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2068 : BitVec 32 := 1#32
  let v2791 : BitVec 32 := Scalar.muli v5 c1_i32_2068
  let v2792 : BitVec 32 := Scalar.addi c0_i32_2069 v2791
  v2792.toNat
def k0_dev59 (d0 : Dev nD) : Nat :=
  let c0_i32_2108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2107 : BitVec 32 := 1#32
  let v2857 : BitVec 32 := Scalar.muli v7 c1_i32_2107
  let v2858 : BitVec 32 := Scalar.addi c0_i32_2108 v2857
  v2858.toNat
def k0_dev60 (d0 : Dev nD) : Nat :=
  let c0_i32_2155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2154 : BitVec 32 := 1#32
  let v2931 : BitVec 32 := Scalar.muli v7 c1_i32_2154
  let v2932 : BitVec 32 := Scalar.addi c0_i32_2155 v2931
  v2932.toNat
def k0_dev61 (d0 : Dev nD) : Nat :=
  let c0_i32_2211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2210 : BitVec 32 := 1#32
  let v3013 : BitVec 32 := Scalar.muli v5 c1_i32_2210
  let v3014 : BitVec 32 := Scalar.addi c0_i32_2211 v3013
  v3014.toNat
def k0_dev62 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2258 : BitVec 32 := 1#32
  let v3087 : BitVec 32 := Scalar.muli v5 c1_i32_2258
  let v3088 : BitVec 32 := Scalar.addi c0_i32_2259 v3087
  v3088.toNat
def k0_off8 (d0 : Dev nD) (c0_i32_326 : BitVec 32) : Fin 3 → Nat :=
  let c4_i32_325 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v331 : BitVec 32 := Scalar.subi v2 c8_i32
  let c16_i32_323 : BitVec 32 := 16#32
  let v332 : BitVec 32 := Scalar.addi v331 c16_i32_323
  let c16_i32_324 : BitVec 32 := 16#32
  let v333 : BitVec 32 := Scalar.remsi v332 c16_i32_324
  let v334 : BitVec 32 := Scalar.muli c4_i32_325 v333
  let v335 : BitVec 32 := Scalar.addi v334 c0_i32_326
  let v3161 : Index := Scalar.indexCast v335
  let c0_2304 : Index := 0#32
  let c0_2305 : Index := 0#32
  ![v3161.toNat, 0, 0]
def k0_off9 (d0 : Dev nD) (c0_i32_326 : BitVec 32) : Fin 2 → Nat :=
  let c4_i32_325 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v331 : BitVec 32 := Scalar.subi v2 c8_i32
  let c16_i32_323 : BitVec 32 := 16#32
  let v332 : BitVec 32 := Scalar.addi v331 c16_i32_323
  let c16_i32_324 : BitVec 32 := 16#32
  let v333 : BitVec 32 := Scalar.remsi v332 c16_i32_324
  let v334 : BitVec 32 := Scalar.muli c4_i32_325 v333
  let v335 : BitVec 32 := Scalar.addi v334 c0_i32_326
  let c64_i32_2314 : BitVec 32 := 64#32
  let v3182 : BitVec 32 := Scalar.muli v335 c64_i32_2314
  let v3183 : Index := Scalar.indexCast v3182
  let c0_2315 : Index := 0#32
  ![v3183.toNat, 0]
def k0_off10 (d0 : Dev nD) (c2_i32_654 : BitVec 32) : Fin 3 → Nat :=
  let c4_i32_653 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_650 : BitVec 32 := 8#32
  let v659 : BitVec 32 := Scalar.addi v2 c8_i32_650
  let c16_i32_651 : BitVec 32 := 16#32
  let v660 : BitVec 32 := Scalar.addi v659 c16_i32_651
  let c16_i32_652 : BitVec 32 := 16#32
  let v661 : BitVec 32 := Scalar.remsi v660 c16_i32_652
  let v662 : BitVec 32 := Scalar.muli c4_i32_653 v661
  let v663 : BitVec 32 := Scalar.addi v662 c2_i32_654
  let v3185 : Index := Scalar.indexCast v663
  let c0_2316 : Index := 0#32
  let c0_2317 : Index := 0#32
  ![v3185.toNat, 0, 0]
def k0_off11 (d0 : Dev nD) (c2_i32_654 : BitVec 32) : Fin 2 → Nat :=
  let c4_i32_653 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_650 : BitVec 32 := 8#32
  let v659 : BitVec 32 := Scalar.addi v2 c8_i32_650
  let c16_i32_651 : BitVec 32 := 16#32
  let v660 : BitVec 32 := Scalar.addi v659 c16_i32_651
  let c16_i32_652 : BitVec 32 := 16#32
  let v661 : BitVec 32 := Scalar.remsi v660 c16_i32_652
  let v662 : BitVec 32 := Scalar.muli c4_i32_653 v661
  let v663 : BitVec 32 := Scalar.addi v662 c2_i32_654
  let c64_i32_2326 : BitVec 32 := 64#32
  let v3206 : BitVec 32 := Scalar.muli v663 c64_i32_2326
  let v3207 : Index := Scalar.indexCast v3206
  let c0_2327 : Index := 0#32
  ![v3207.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "clip_hi" => some ⊤
  | "clip_lo" => some ⊥
  | _ => none

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Spec.lean ====
/-
  The kernel function as a loop.

  The printed body is one straight line of several hundred memory operations. Here the same operations are
  written as loops over the thirty hops of each direction, over a table `Views` of the places they touch, and
  the printed body is shown to be that loop at the table of the printed offsets.
-/
module

public import proofs.«01_k».proof.Proof.Gen.KernelIdeal.Launch

@[expose] public section

noncomputable section

namespace Cert.KernelIdeal.Ring

open Idealize.ShloMosaic Idealize.ShloMosaic.TcCoe
open Idealize.SL Idealize.SL.Sem
open Facts₀ Facts

variable {F : FTy → Type} [FloatOps F]

/-- The kernel's programs. -/
abbrev Pg (F : FTy → Type) := Prog (TpuEff nD τ sig (Elt F) Λ₀ .tc) PUnit

/-! ## The table of the places -/

/-- The offsets of a 64×4096 slot of the gathered array, for a transfer. -/
structure SlotOff where
  off : Fin 3 → Nat
  inb : ∀ a, off a + S1x64x4096.size a ≤ S64x64x4096.size a
  words : (Rect.unit (s := S64x64x4096) off S1x64x4096.size inb).WholeWords (EltTy.packing .fp8e4m3)

/-- The offsets of a 64×4096 slot of the gathered array, for a load. -/
structure LoadOff where
  off : Fin 3 → Nat
  inb : ∀ a, off a + S1x64x4096.size a ≤ S64x64x4096.size a

/-- The offsets of 64 rows of the result. -/
structure OutOff where
  off : Fin 2 → Nat
  inb : ∀ a, off a + S64x128.size a ≤ S4096x128.size a

/-- The places one device's body touches: its two neighbours, the slots it sends clockwise and counterclockwise
    (each is also the slot the same hop of its neighbour fills here), the slots it multiplies after each hop, and
    the rows of the result each product goes to. -/
structure Views where
  left : Dev nD
  right : Dev nD
  cw : Fin 30 → SlotOff
  ccw : Fin 30 → SlotOff
  cwIn : Fin 30 → LoadOff
  ccwIn : Fin 30 → LoadOff
  cwOut : Fin 30 → OutOff
  ccwOut : Fin 30 → OutOff
  ownOut : Fin 4 → OutOff

/-- The table of the printed offsets. -/
def printed (d : Dev nD) : Views where
  left := ⟨k0_dev1 d, k0_dev1_lt d⟩
  right := ⟨k0_dev2 d, k0_dev2_lt d⟩
  cw j := ⟨k0_off1 d (k0_off1_at j).1 (k0_off1_at j).2, k0_off1_inb d j, k0_off1_wordsfp8e4m3 d j⟩
  ccw j := ⟨k0_off2 d (k0_off2_at j).1 (k0_off2_at j).2, k0_off2_inb d j, k0_off2_wordsfp8e4m3 d j⟩
  cwIn j := if h : j.val < 28 then
      ⟨k0_off4 d (BitVec.ofNat 32 (j.val / 4)) (BitVec.ofNat 32 (j.val % 4)),
        k0_off4_inb d ⟨j.val / 4, by omega⟩ ⟨j.val % 4, by omega⟩⟩
    else ⟨k0_off8 d (BitVec.ofNat 32 (j.val - 28)), k0_off8_inb d ⟨j.val - 28, by omega⟩⟩
  ccwIn j := if h : j.val < 28 then
      ⟨k0_off6 d (BitVec.ofNat 32 (j.val / 4)) (BitVec.ofNat 32 (j.val % 4)),
        k0_off6_inb d ⟨j.val / 4, by omega⟩ ⟨j.val % 4, by omega⟩⟩
    else ⟨k0_off10 d (BitVec.ofNat 32 (2 + (j.val - 28))), k0_off10_inb d ⟨j.val - 28, by omega⟩⟩
  cwOut j := if h : j.val < 28 then
      ⟨k0_off5 d (BitVec.ofNat 32 (j.val / 4)) (BitVec.ofNat 32 (j.val % 4)),
        k0_off5_inb d ⟨j.val / 4, by omega⟩ ⟨j.val % 4, by omega⟩⟩
    else ⟨k0_off9 d (BitVec.ofNat 32 (j.val - 28)), k0_off9_inb d ⟨j.val - 28, by omega⟩⟩
  ccwOut j := if h : j.val < 28 then
      ⟨k0_off7 d (BitVec.ofNat 32 (j.val / 4)) (BitVec.ofNat 32 (j.val % 4)),
        k0_off7_inb d ⟨j.val / 4, by omega⟩ ⟨j.val % 4, by omega⟩⟩
    else ⟨k0_off11 d (BitVec.ofNat 32 (2 + (j.val - 28))), k0_off11_inb d ⟨j.val - 28, by omega⟩⟩
  ownOut u := ⟨k0_off3 d (BitVec.ofNat 32 u.val), k0_off3_inb d u⟩

/-! ## The operands -/

/-- The kernel function's operands. -/
structure Args where
  a0 : Memref sig .tc .vmem S256x4096 .fp8e4m3
  h0 : a0.IsWhole
  a1 : Memref sig .tc .vmem S4096x128 .fp8e5m2
  h1 : a1.IsWhole
  a2 : Memref sig .tc .smem S1 .f32
  h2 : a2.IsWhole
  a3 : Memref sig .tc .smem S1 .f32
  h3 : a3.IsWhole
  a4 : Memref sig .tc .vmem S4096x128 .f32
  h4 : a4.IsWhole
  a5 : Memref sig .tc .vmem S64x64x4096 .fp8e4m3
  h5 : a5.IsWhole
  a6 : DmaSems sig S30
  a7 : DmaSems sig S30
  a8 : DmaSems sig S30
  a9 : DmaSems sig S30

theorem inb_sem (j : Fin 30) : ∀ a, (![j.val] : Fin 1 → Nat) a + S1.size a ≤ S30.size a := by
  revert j; decide

theorem inb_x (u : Fin 4) : ∀ a, (![64 * u.val, 0] : Fin 2 → Nat) a + S64x4096.size a ≤ S256x4096.size a := by
  revert u; decide

theorem words_x : ∀ u : Fin 4,
    (Rect.unit (s := S256x4096) ![64 * u.val, 0] S64x4096.size (inb_x u)).WholeWords (EltTy.packing .fp8e4m3) := by
  decide

/-- The barrier's semaphore. -/
def barSem : Sem sig := sig.barrier 0 rfl

/-- Semaphore `j` of an array of thirty. -/
def semAt (a : DmaSems sig S30) (j : Fin 30) : DmaSem sig :=
  ((a.slice (Rect.unit (s := S30) ![j.val] S1.size (inb_sem j))).squeeze S_ squeezes_S1_S_).sem

/-- A transfer's end with the evidence that it is whole words. -/
structure End where
  m : Memref sig .tc .vmem S64x4096 .fp8e4m3
  ok : m.view.WordExact

/-- A slot of the gathered array. -/
def Args.slot (A : Args) (o : SlotOff) : End where
  m := (A.a5.slice (Rect.unit (s := S64x64x4096) o.off S1x64x4096.size o.inb) (fun _ => rfl)).squeeze S64x4096 squeezes_S1x64x4096_S64x4096
  ok := (A.h5.wordExact_slice rfl _ o.words).reshape _ _

/-- A quarter of the device's own rows. -/
def Args.own (A : Args) (u : Fin 4) : End where
  m := A.a0.slice (Rect.unit (s := S256x4096) ![64 * u.val, 0] S64x4096.size (inb_x u)) (fun _ => rfl)
  ok := A.h0.wordExact_slice rfl _ (words_x u)

/-- What hop `j` sends: an own quarter at the first four hops, later the slot that an earlier hop filled. -/
def Args.src (A : Args) (j : Fin 30) (o : SlotOff) : End :=
  if h : j.val < 4 then A.own ⟨j.val, h⟩ else A.slot o

/-! ## The block of the result -/

/-- What a 64×4096 block of the left operand gives: the product with the right operand, scaled, then `y·(1/(1+exp(-y)))`. -/
def blockOut (xb : FVec F S64x4096 .fp8e4m3) (wv : Vec F S4096x128 .fp8e5m2) (sx sw : Elt F .f32) : FVec F S64x128 .f32 :=
  let y : FVec F S64x128 .f32 :=
    mulf (matmul dot_S64x4096_S4096x128_S64x128_1_0_0_1_n_n none (extf .bf16 xb bitsLt_fp8e4m3_bf16)
        (extf .bf16 (shapeCast S4096x128 wv shapeCasts_S4096x128_S4096x128) bitsLt_fp8e5m2_bf16)
        (constant S64x128 .f32 0x00000000#32))
      (broadcast S64x128 (Scalar.mulf sx sw))
  mulf y (divf (broadcast S64x128 (Scalar.ofBits .f32 0x3F800000#32))
    (addf (broadcast S64x128 (Scalar.ofBits .f32 0x3F800000#32))
      (exp (subf (broadcast S64x128 (Scalar.ofBits .f32 0x00000000#32)) y))))

/-! ## The steps, each before the rest `k` -/

def sendOp (dv : Dev nD) (s t : End) (sS sR : DmaSem sig) (k : Pg F) : Pg F :=
  .op (.enqueueDma s.m (.remote (Dev.tc dv) t.m (.dma sS)) (.dma sR) s.ok t.ok ⟨⟨rfl, Or.inl rfl⟩, trivial⟩) fun _ => k

def waitOp (sm : DmaSem sig) (s t : End) (k : Pg F) : Pg F :=
  .op (.waitDma2 sm s.m t.m s.ok t.ok) fun _ => k

/-- The second half of a block's computation: the other operands loaded, the block stored. -/
def finishOp (A : Args) (xb : FVec F S64x4096 .fp8e4m3) (o : OutOff) (k : Pg F) : Pg F :=
  .op (.load A.a1 (Rect.unit (s := S4096x128) ![0, 0] S4096x128.size inb_S4096x128_S4096x128_0_0).toLoadRect
    (View.loadsAt_vmem h_S4096x128)) fun wv =>
  .op (.load A.a2 (Rect.unit (s := S1) ![0] S1.size inb_S1_S1_0).toLoadRect (View.loadsAt_rect (View.loads_smem_one rfl numel1_S1))) fun f =>
  .op (.load A.a3 (Rect.unit (s := S1) ![0] S1.size inb_S1_S1_0).toLoadRect (View.loadsAt_rect (View.loads_smem_one rfl numel1_S1))) fun g =>
  .op (.load A.a4 (Rect.unit (s := S4096x128) o.off S64x128.size o.inb).toLoadRect (View.loadsAt_vmem h_S64x128)) fun _ =>
  .op (.store A.a4 (Rect.unit (s := S4096x128) o.off S64x128.size o.inb)
    (blockOut xb wv (f (Shape.Idx.first (numel1_S1.symm ▸ Nat.one_pos))) (g (Shape.Idx.first (numel1_S1.symm ▸ Nat.one_pos))))
    Finset.univ (View.stores_vmem_bits_univ h_S64x128 rfl) (.inl rfl)) fun _ => k

def ownOp (A : Args) (u : Fin 4) (o : OutOff) (k : Pg F) : Pg F :=
  .op (.load A.a0 (Rect.unit (s := S256x4096) ![64 * u.val, 0] S64x4096.size (inb_x u)).toLoadRect (View.loadsAt_vmem h_S64x4096)) fun v =>
  finishOp A (shapeCast S64x4096 v shapeCasts_S64x4096_S64x4096) o k

def gatOp (A : Args) (i : LoadOff) (o : OutOff) (k : Pg F) : Pg F :=
  .op (.load A.a5 (Rect.unit (s := S64x64x4096) i.off S1x64x4096.size i.inb).toLoadRect (View.loadsAt_vmem h_S1x64x4096)) fun v =>
  finishOp A (shapeCast S64x4096 v shapeCasts_S1x64x4096_S64x4096) o k

variable (A : Args) (V : Views)

def sendCw (j : Fin 30) (k : Pg F) : Pg F :=
  sendOp V.right (A.src j (V.cw j)) (A.slot (V.cw j)) (semAt A.a6 j) (semAt A.a7 j) k

def sendCcw (j : Fin 30) (k : Pg F) : Pg F :=
  sendOp V.left (A.src j (V.ccw j)) (A.slot (V.ccw j)) (semAt A.a8 j) (semAt A.a9 j) k

/-- The clockwise send hop `j` makes possible. -/
def nextCw (j : Fin 30) (k : Pg F) : Pg F := if h : j.val + 4 < 30 then sendCw A V ⟨j.val + 4, h⟩ k else k

/-- The counterclockwise send hop `j` makes possible: the last two hops go two after the hop that fills their slot. -/
def nextCcw (j : Fin 30) (k : Pg F) : Pg F :=
  if h : j.val + 4 < 28 then sendCcw A V ⟨j.val + 4, by omega⟩ k
  else if h : 26 ≤ j.val ∧ j.val < 28 then sendCcw A V ⟨j.val + 2, by omega⟩ k
  else k

/-- `f i (f (i+1) (… k))`, `n` of them, the last at `N - 1`. -/
def loop {N : Nat} (f : Fin N → Pg F → Pg F) : (n : Nat) → n ≤ N → Pg F → Pg F
  | 0, _, k => k
  | n + 1, h, k => f ⟨N - (n + 1), by omega⟩ (loop f n (by omega) k)

def openOp (j : Fin 4) (k : Pg F) : Pg F :=
  sendCw A V ⟨j.val, by omega⟩ (sendCcw A V ⟨j.val, by omega⟩ k)

def hopOp (j : Fin 30) (k : Pg F) : Pg F :=
  waitOp (semAt A.a7 j) (A.src j (V.cw j)) (A.slot (V.cw j)) <|
  nextCw A V j <|
  waitOp (semAt A.a9 j) (A.src j (V.ccw j)) (A.slot (V.ccw j)) <|
  nextCcw A V j <|
  gatOp A (V.cwIn j) (V.cwOut j) <|
  gatOp A (V.ccwIn j) (V.ccwOut j) k

def closeCw (j : Fin 30) (k : Pg F) : Pg F := waitOp (semAt A.a6 j) (A.slot (V.cw j)) (A.src j (V.cw j)) k

def closeCcw (j : Fin 30) (k : Pg F) : Pg F := waitOp (semAt A.a8 j) (A.slot (V.ccw j)) (A.src j (V.ccw j)) k

/-- The body after the device has read its number: meet both neighbours, send the own quarters both ways, multiply
    them, then the thirty hops, then wait for every send. -/
def bodyAt : Pg F :=
  .op (.semSignal (V.left, .tc) barSem (1#32).toInt) fun _ =>
  .op (.semSignal (V.right, .tc) barSem (1#32).toInt) fun _ =>
  .op (.semWait barSem (2#32).toInt) fun _ =>
  loop (openOp A V) 4 le_rfl <|
  loop (fun u k => ownOp A u (V.ownOut u) k) 4 le_rfl <|
  loop (hopOp A V) 30 le_rfl <|
  loop (closeCw A V) 30 le_rfl <|
  loop (closeCcw A V) 30 le_rfl <|
  .ret ⟨⟩

def body (T : Dev nD → Views) : Pg F := .op .deviceId fun d => bodyAt A (T d)

theorem cc0_body_eq :
    (cc0_body A.a0 A.h0 A.a1 A.h1 A.a2 A.h2 A.a3 A.h3 A.a4 A.h4 A.a5 A.h5 A.a6 A.a7 A.a8 A.a9 : Pg F) = body A printed := by
  chain_rfl

end Cert.KernelIdeal.Ring
-- ==== Proof.KernelIdeal.Places.lean ====
/-
  The places in closed form: which neighbour, which slot of the gathered array, which rows of the result.

  Slot `s` of the gathered array is for the 64 rows `64·s …` of the whole left operand, on every device. Device `c`
  owns the four slots `4c …`; hop `j` of its left neighbour fills its slot `rcw c j`, hop `j` of its right
  neighbour its slot `rccw c j`, and these sixty-four are all the slots, each once.
-/
module

public import proofs.«01_k».proof.Proof.KernelIdeal.Spec

@[expose] public section

noncomputable section

namespace Cert.KernelIdeal.Ring

open Idealize.ShloMosaic Idealize.ShloMosaic.TcCoe
open Idealize.SL Idealize.SL.Sem
open Facts₀ Facts

/-! ## Neighbours and slots -/

set_option backward.proofsInPublic true in
def right (c : Dev nD) : Dev nD := ⟨(c.val + 1) % 16, Nat.mod_lt _ (by decide)⟩
set_option backward.proofsInPublic true in
def left (c : Dev nD) : Dev nD := ⟨(c.val + 15) % 16, Nat.mod_lt _ (by decide)⟩

theorem left_right : ∀ c : Dev nD, left (right c) = c := by decide
theorem right_left : ∀ c : Dev nD, right (left c) = c := by decide
theorem left_ne_right : ∀ c : Dev nD, left c ≠ right c := by decide

/-- The ring as a permutation. -/
def ring : Dev nD ≃ Dev nD := ⟨right, left, left_right, right_left⟩

set_option backward.proofsInPublic true in
/-- The slot that hop `j` of the left neighbour fills. -/
def rcw (c : Dev nD) (j : Fin 30) : Fin 64 :=
  if h : j.val < 28 then ⟨4 * ((c.val + 15 - j.val / 4) % 16) + j.val % 4, by omega⟩
  else ⟨4 * ((c.val + 8) % 16) + (j.val - 28), by omega⟩

set_option backward.proofsInPublic true in
/-- The slot that hop `j` of the right neighbour fills. -/
def rccw (c : Dev nD) (j : Fin 30) : Fin 64 :=
  if h : j.val < 28 then ⟨4 * ((c.val + 1 + j.val / 4) % 16) + j.val % 4, by omega⟩
  else ⟨4 * ((c.val + 8) % 16) + 2 + (j.val - 28), by omega⟩

set_option backward.proofsInPublic true in
/-- The device's own slots. -/
def mine (c : Dev nD) (u : Fin 4) : Fin 64 := ⟨4 * c.val + u.val, by have : c.val < 16 := c.isLt; omega⟩

/-- The slot that hop `j` sends clockwise. -/
def scw (c : Dev nD) (j : Fin 30) : Fin 64 := rcw (right c) j
/-- The slot that hop `j` sends counterclockwise. -/
def sccw (c : Dev nD) (j : Fin 30) : Fin 64 := rccw (left c) j

set_option backward.proofsInPublic true in
/-- The first four hops send the own slots. -/
theorem scw_mine : ∀ (c : Dev nD) (u : Fin 4), scw c ⟨u.val, by omega⟩ = mine c u := by decide
set_option backward.proofsInPublic true in
theorem sccw_mine : ∀ (c : Dev nD) (u : Fin 4), sccw c ⟨u.val, by omega⟩ = mine c u := by decide
set_option backward.proofsInPublic true in
/-- Clockwise, hop `j + 4` sends on what hop `j` brought. -/
theorem scw_fwd : ∀ (c : Dev nD) (j : Fin 30) (h : j.val + 4 < 30), scw c ⟨j.val + 4, h⟩ = rcw c j := by decide +kernel
set_option backward.proofsInPublic true in
/-- Counterclockwise likewise for the first twenty-four, -/
theorem sccw_fwd : ∀ (c : Dev nD) (j : Fin 30) (h : j.val + 4 < 28), sccw c ⟨j.val + 4, by omega⟩ = rccw c j := by decide +kernel
set_option backward.proofsInPublic true in
/-- and hops 28, 29 send on what hops 26, 27 brought. -/
theorem sccw_fwd' : ∀ (c : Dev nD) (j : Fin 30) (h : 26 ≤ j.val ∧ j.val < 28), sccw c ⟨j.val + 2, by omega⟩ = rccw c j := by
  decide +kernel

/-- A device's sixty-four slots: its own, those the left neighbour fills, those the right neighbour fills. -/
def slotOf (c : Dev nD) : Fin 4 ⊕ Fin 30 ⊕ Fin 30 → Fin 64
  | .inl u => mine c u
  | .inr (.inl j) => rcw c j
  | .inr (.inr j) => rccw c j

/-- The part of a device's slots that slot `s` belongs to. -/
def partOf (c : Dev nD) (s : Fin 64) : Fin 4 ⊕ Fin 30 ⊕ Fin 30 :=
  let k := (s.val / 4 + 16 - c.val) % 16
  if k = 0 then .inl (Fin.ofNat 4 s.val)
  else if k < 8 then .inr (.inr (Fin.ofNat 30 (4 * (k - 1) + s.val % 4)))
  else if k = 8 then (if s.val % 4 < 2 then .inr (.inl (Fin.ofNat 30 (28 + s.val % 4))) else .inr (.inr (Fin.ofNat 30 (26 + s.val % 4))))
  else .inr (.inl (Fin.ofNat 30 (4 * (15 - k) + s.val % 4)))

theorem slotOf_partOf : ∀ (c : Dev nD) (s : Fin 64), slotOf c (partOf c s) = s := by decide +kernel
theorem partOf_mine : ∀ (c : Dev nD) (u : Fin 4), partOf c (mine c u) = .inl u := by decide +kernel
theorem partOf_rcw : ∀ (c : Dev nD) (j : Fin 30), partOf c (rcw c j) = .inr (.inl j) := by decide +kernel
theorem partOf_rccw : ∀ (c : Dev nD) (j : Fin 30), partOf c (rccw c j) = .inr (.inr j) := by decide +kernel

/-- The sixty-four slots, each once. -/
def slotEquiv (c : Dev nD) : Fin 4 ⊕ Fin 30 ⊕ Fin 30 ≃ Fin 64 where
  toFun := slotOf c
  invFun := partOf c
  left_inv
    | .inl u => partOf_mine c u
    | .inr (.inl j) => partOf_rcw c j
    | .inr (.inr j) => partOf_rccw c j
  right_inv := slotOf_partOf c

/-! ## The table in closed form -/

theorem inb_slot : ∀ (s : Fin 64) a, (![s.val, 0, 0] : Fin 3 → Nat) a + S1x64x4096.size a ≤ S64x64x4096.size a := by decide
theorem words_slot : ∀ s : Fin 64,
    (Rect.unit (s := S64x64x4096) ![s.val, 0, 0] S1x64x4096.size (inb_slot s)).WholeWords (EltTy.packing .fp8e4m3) := by
  decide +kernel
theorem inb_out : ∀ (s : Fin 64) a, (![64 * s.val, 0] : Fin 2 → Nat) a + S64x128.size a ≤ S4096x128.size a := by decide

def slotOff (s : Fin 64) : SlotOff := ⟨![s.val, 0, 0], inb_slot s, words_slot s⟩
def loadOff (s : Fin 64) : LoadOff := ⟨![s.val, 0, 0], inb_slot s⟩
def outOff (s : Fin 64) : OutOff := ⟨![64 * s.val, 0], inb_out s⟩

def canon (c : Dev nD) : Views where
  left := left c
  right := right c
  cw j := slotOff (scw c j)
  ccw j := slotOff (sccw c j)
  cwIn j := loadOff (rcw c j)
  ccwIn j := loadOff (rccw c j)
  cwOut j := outOff (rcw c j)
  ccwOut j := outOff (rccw c j)
  ownOut u := outOff (mine c u)

theorem SlotOff.ext_off {a b : SlotOff} (h : ∀ i, a.off i = b.off i) : a = b := by
  obtain ⟨a, _, _⟩ := a; obtain ⟨b, _, _⟩ := b; obtain rfl : a = b := funext h; rfl
theorem LoadOff.ext_off {a b : LoadOff} (h : ∀ i, a.off i = b.off i) : a = b := by
  obtain ⟨a, _⟩ := a; obtain ⟨b, _⟩ := b; obtain rfl : a = b := funext h; rfl
theorem OutOff.ext_off {a b : OutOff} (h : ∀ i, a.off i = b.off i) : a = b := by
  obtain ⟨a, _⟩ := a; obtain ⟨b, _⟩ := b; obtain rfl : a = b := funext h; rfl

theorem printed_left : ∀ c, (printed c).left = left c := by decide +kernel
theorem printed_right : ∀ c, (printed c).right = right c := by decide +kernel
theorem printed_cw : ∀ c j i, ((printed c).cw j).off i = (slotOff (scw c j)).off i := by decide +kernel
theorem printed_ccw : ∀ c j i, ((printed c).ccw j).off i = (slotOff (sccw c j)).off i := by decide +kernel
theorem printed_cwIn : ∀ c j i, ((printed c).cwIn j).off i = (loadOff (rcw c j)).off i := by decide +kernel
theorem printed_ccwIn : ∀ c j i, ((printed c).ccwIn j).off i = (loadOff (rccw c j)).off i := by decide +kernel
theorem printed_cwOut : ∀ c j i, ((printed c).cwOut j).off i = (outOff (rcw c j)).off i := by decide +kernel
theorem printed_ccwOut : ∀ c j i, ((printed c).ccwOut j).off i = (outOff (rccw c j)).off i := by decide +kernel
theorem printed_ownOut : ∀ c u i, ((printed c).ownOut u).off i = (outOff (mine c u)).off i := by decide +kernel

theorem views_ext {V W : Views} (hl : V.left = W.left) (hr : V.right = W.right) (h1 : ∀ j, V.cw j = W.cw j)
    (h2 : ∀ j, V.ccw j = W.ccw j) (h3 : ∀ j, V.cwIn j = W.cwIn j) (h4 : ∀ j, V.ccwIn j = W.ccwIn j)
    (h5 : ∀ j, V.cwOut j = W.cwOut j) (h6 : ∀ j, V.ccwOut j = W.ccwOut j) (h7 : ∀ u, V.ownOut u = W.ownOut u) : V = W := by
  obtain ⟨_, _, _, _, _, _, _, _, _⟩ := V; obtain ⟨_, _, _, _, _, _, _, _, _⟩ := W
  obtain rfl := hl; obtain rfl := hr; obtain rfl := funext h1; obtain rfl := funext h2; obtain rfl := funext h3
  obtain rfl := funext h4; obtain rfl := funext h5; obtain rfl := funext h6; obtain rfl := funext h7; rfl

theorem printed_eq : printed = canon := funext fun c =>
  views_ext (printed_left c) (printed_right c) (fun j => SlotOff.ext_off (printed_cw c j)) (fun j => SlotOff.ext_off (printed_ccw c j))
    (fun j => LoadOff.ext_off (printed_cwIn c j)) (fun j => LoadOff.ext_off (printed_ccwIn c j))
    (fun j => OutOff.ext_off (printed_cwOut c j)) (fun j => OutOff.ext_off (printed_ccwOut c j))
    (fun u => OutOff.ext_off (printed_ownOut c u))

end Cert.KernelIdeal.Ring
-- ==== Proof.KernelIdeal.Schedule.lean ====
/-
  The protocol: the semaphores a device has, who pays each, and what a payment hands over.

  Every device has a barrier semaphore and, for each direction, thirty send and thirty receive semaphores. A
  device meets both its neighbours at their barriers: to the one that will send to it, it hands the thirty slots that
  neighbour fills. A landing hands the receiver its slot holding its rows of the whole left operand, and hands
  the sender back the share of what it sent from. Everything takes place in one round.
-/
module

public import proofs.«01_k».proof.Proof.KernelIdeal.Places
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The operands and the places -/

/-- The operands at the launch: the five staging buffers, the gathered array, the four semaphore arrays. -/
abbrev ops : Args where
  a0 := Memref.whole cc0_stg0_0
  h0 := Memref.isWhole_whole _
  a1 := Memref.whole cc0_stg1_0
  h1 := Memref.isWhole_whole _
  a2 := Memref.whole cc0_stg2_0
  h2 := Memref.isWhole_whole _
  a3 := Memref.whole cc0_stg3_0
  h3 := Memref.isWhole_whole _
  a4 := Memref.whole cc0_stg4_0
  h4 := Memref.isWhole_whole _
  a5 := Memref.whole cc0_scratch0
  h5 := Memref.isWhole_whole _
  a6 := cc0_scratch1
  a7 := cc0_scratch2
  a8 := cc0_scratch3
  a9 := cc0_scratch4

/-- Slot `s` of the gathered array. -/
abbrev slotM (s : Fin 64) : Memref sig .tc .vmem S64x4096 .fp8e4m3 := (ops.slot (slotOff s)).m
/-- Quarter `u` of the device's own rows. -/
abbrev ownM (u : Fin 4) : Memref sig .tc .vmem S64x4096 .fp8e4m3 := (ops.own u).m
/-- The rows of the result that slot `s` gives. -/
abbrev outR (s : Fin 64) : Rect S4096x128 := Rect.unit (s := S4096x128) (outOff s).off S64x128.size (outOff s).inb

/-- The neighbour a direction sends to (`true`: clockwise). -/
def nb (d : Bool) (c : Dev nD) : Dev nD := if d then right c else left c
/-- The neighbour a direction receives from. -/
def pb (d : Bool) (c : Dev nD) : Dev nD := if d then left c else right c
/-- The slot hop `j` of a direction fills on device `c`. -/
def rsl (d : Bool) (c : Dev nD) (j : Fin 30) : Fin 64 := if d then rcw c j else rccw c j
/-- The slot hop `j` of a direction sends from device `c`. -/
def ssl (d : Bool) (c : Dev nD) (j : Fin 30) : Fin 64 := rsl d (nb d c) j

theorem pb_nb (d : Bool) (c : Dev nD) : pb d (nb d c) = c := by
  cases d
  · exact right_left c
  · exact left_right c
theorem nb_pb (d : Bool) (c : Dev nD) : nb d (pb d c) = c := by
  cases d
  · exact left_right c
  · exact right_left c
theorem nb_not (d : Bool) (c : Dev nD) : nb (!d) c = pb d c := by cases d <;> rfl

/-- A direction's neighbours as a permutation. -/
def turn (d : Bool) : Dev nD ≃ Dev nD := ⟨nb d, pb d, pb_nb d, nb_pb d⟩

/-! ## The semaphores -/

/-- Semaphore `j` of a direction's send (`r = false`) or receive (`r = true`) array. -/
def semD (d r : Bool) (j : Fin 30) : DmaSem sig :=
  semAt (if d then (if r then cc0_scratch2 else cc0_scratch1) else (if r then cc0_scratch4 else cc0_scratch3)) j

/-- Which of them a transfer semaphore is, by its number. -/
def dec (s : DmaSem sig) : Option (Bool × Bool × Fin 30) :=
  if 5 ≤ s.val then some (decide (s.val < 65), decide ((s.val - 5) / 30 % 2 = 1), Fin.ofNat 30 ((s.val - 5) % 30)) else none

theorem dec_semD : ∀ d r j, dec (semD d r j) = some (d, r, j) := by decide +kernel

/-- A device's semaphores: the barrier, and the transfers' by direction, end and hop. -/
abbrev CI : Type := Option (Bool × Bool × Fin 30)

def csem : CI → SemLoc sig
  | none => .reg barSem
  | some (d, r, j) => .dma (semD d r j)

/-- Which a semaphore is. -/
def kdec : SemLoc sig → Option CI
  | .reg s => if s = barSem then some none else none
  | .dma s => (dec s).map some

theorem kdec_csem (k : CI) : kdec (csem k) = some k := by
  match k with
  | none => show (if barSem = barSem then some (none : CI) else none) = _; exact if_pos rfl
  | some (d, r, j) => show (dec (semD d r j)).map some = _; rw [dec_semD]; rfl

theorem csem_injective : Function.Injective csem := fun a b h => by
  have := congrArg kdec h; rw [kdec_csem, kdec_csem] at this; exact Option.some.inj this

abbrev cell (c : Dev nD) (k : CI) : GSem nD τ sig := ((c : Thread nD τ), csem k)
abbrev barCell (c : Dev nD) : GSem nD τ sig := cell c none
abbrev xferCell (c : Dev nD) (d r : Bool) (j : Fin 30) : GSem nD τ sig := cell c (some (d, r, j))

/-- What a landing of 64 rows counts. -/
abbrev N : ℕ := (slotM 0).view.dmaCredit
theorem N_pos : 0 < N := View.dmaCredit_pos _ (by decide)

/-! ## Contents -/

/-- A device's own rows, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

set_option backward.proofsInPublic true in
/-- The device whose rows slot `s` is for, -/
def devOf (s : Fin 64) : Dev nD := ⟨s.val / 4, by have := s.isLt; show s.val / 4 < 16; omega⟩
set_option backward.proofsInPublic true in
/-- and which quarter of them. -/
def quarter (s : Fin 64) : Fin 4 := ⟨s.val % 4, Nat.mod_lt _ (by decide)⟩

theorem devOf_mine : ∀ c u, devOf (mine c u) = c := by decide
theorem quarter_mine : ∀ c u, quarter (mine c u) = u := by decide

/-- The 64 rows slot `s` is for. -/
def chunk (s : Fin 64) : FVec F S64x4096 .fp8e4m3 := (ownM (quarter s)).view.read (Elt F) (xstg m (devOf s))

/-- The gathered array, every slot landed: the same on every device. -/
def gat : (cc0_scratch0 : Ref sig .tc).ty.Contents (Elt F) := fun i =>
  (slotM (i (0 : Fin 3))).view.write (Elt F) (fun _ => chunk m 0 (Shape.Idx.first (by decide))) (chunk m (i (0 : Fin 3))) Finset.univ i

/-- What the right operand's block and the two scales load as. -/
def wval (c : Dev nD) : Vec F S4096x128 .fp8e5m2 :=
  (ops.a1).view.readAt (Elt F) (Rect.unit (s := S4096x128) ![0, 0] S4096x128.size inb_S4096x128_S4096x128_0_0).toLoadRect (wstg m c)
def sxval (c : Dev nD) : Elt F .f32 :=
  (ops.a2).view.readAt (Elt F) (Rect.unit (s := S1) ![0] S1.size inb_S1_S1_0).toLoadRect (sxstg m c)
    (Shape.Idx.first (numel1_S1.symm ▸ Nat.one_pos))
def swval (c : Dev nD) : Elt F .f32 :=
  (ops.a3).view.readAt (Elt F) (Rect.unit (s := S1) ![0] S1.size inb_S1_S1_0).toLoadRect (swstg m c)
    (Shape.Idx.first (numel1_S1.symm ▸ Nat.one_pos))

/-- The rows of device `c`'s result that slot `s` gives. -/
def outBlk (c : Dev nD) (s : Fin 64) : FVec F S64x128 .f32 := blockOut (chunk m s) (wval m c) (sxval m c) (swval m c)

set_option backward.proofsInPublic true in
/-- The slot of a row of the result. -/
def slotOfRow (i : S4096x128.Idx) : Fin 64 := ⟨(i (0 : Fin 2)).val / 64, by have := (i (0 : Fin 2)).isLt; change _ < 4096 at this; omega⟩

/-- Device `c`'s result. -/
def outAt (c : Dev nD) : (cc0_stg4_0 : Ref sig .tc).ty.Contents (Elt F) := fun i =>
  ((ops.a4).access (outR (slotOfRow i))).write (Elt F) (fun _ => outBlk m c 0 (Shape.Idx.first (by decide))) (outBlk m c (slotOfRow i)) Finset.univ i

/-! ## The pieces of buffers that change hands -/

/-- Slot `s` of the gathered array on device `c`, at share `q`. -/
def slotPts (c : Dev nD) (s : Fin 64) (q : PosShare TreeShare) (f : (cc0_scratch0 : Ref sig .tc).ty.Contents (Elt F)) : sProp 𝕄 :=
  ((c : Thread nD τ).loc cc0_scratch0) ↦[(slotM s).view.set]{q} f
/-- Quarter `u` of the own rows on device `c`, at share `q`. -/
def ownPts (c : Dev nD) (u : Fin 4) (q : PosShare TreeShare) : sProp 𝕄 :=
  ((c : Thread nD τ).loc cc0_stg0_0) ↦[(ownM u).view.set]{q} xstg m c

omit [FloatOps F] in
/-- Elements of a buffer at a share can change hands. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance slotPts_storable (c : Dev nD) (s q) (f) : BI.Storable (upEmb : UEmb _ 𝕄) (slotPts (F := F) c s q f) := by
  unfold slotPts; exact pts_storable _ _ _ _
instance ownPts_storable (c : Dev nD) (u q) : BI.Storable (upEmb : UEmb _ 𝕄) (ownPts (F := F) m c u q) := by
  unfold ownPts; exact pts_storable _ _ _ _

/-- The share of its own rows that a device keeps, and those its two directions send from. -/
abbrev keepQ : PosShare TreeShare := fullShare.left
def sendQ (d : Bool) : PosShare TreeShare := if d then fullShare.right.left else fullShare.right.right

/-! ## The schedule -/

/-- What the neighbour in direction `d` hands device `c` at its barrier: the slots `c` fills there. -/
def barPay (c : Dev nD) (d : Bool) : sProp 𝕄 := bigSep Finset.univ fun j : Fin 30 => iprop(∃ f, slotPts (F := F) (nb d c) (ssl d c j) fullShare f)
/-- What a landing hands the receiver: the slot, landed. -/
def recvPay (c : Dev nD) (d : Bool) (j : Fin 30) : sProp 𝕄 := slotPts c (rsl d c j) fullShare (gat m)
/-- What it hands the sender: the share it sent from. -/
def sendPay (c : Dev nD) (d : Bool) (j : Fin 30) : sProp 𝕄 :=
  if h : j.val < 4 then ownPts m c ⟨j.val, h⟩ (sendQ d) else slotPts c (ssl d c j) fullShare.right (gat m)

instance barPay_storable (c : Dev nD) (d) : BI.Storable (upEmb : UEmb _ 𝕄) (barPay (F := F) c d) := by unfold barPay; infer_instance
instance recvPay_storable (c : Dev nD) (d j) : BI.Storable (upEmb : UEmb _ 𝕄) (recvPay (F := F) m c d j) := by unfold recvPay; infer_instance
instance sendPay_storable (c : Dev nD) (d j) : BI.Storable (upEmb : UEmb _ 𝕄) (sendPay (F := F) m c d j) := by
  unfold sendPay; split <;> infer_instance

def dutiesOf : Option CI → Finset Bool
  | none => ∅
  | some none => Finset.univ
  | some (some _) => {false}

def amountOf : Option CI → ℕ
  | some (some _) => N
  | _ => 1

def payOf (c : Dev nD) : Option CI → Bool → sProp 𝕄
  | none, _ => iprop(emp)
  | some none, d => barPay c d
  | some (some (d, true, j)), _ => recvPay m c d j
  | some (some (d, false, j)), _ => sendPay m c d j

theorem amountOf_pos : ∀ k, 0 < amountOf k
  | none => Nat.one_pos
  | some none => Nat.one_pos
  | some (some _) => N_pos

instance payOf_storable (c : Dev nD) : ∀ k d, BI.Storable (upEmb : UEmb _ 𝕄) (payOf (F := F) m c k d)
  | none, _ => by unfold payOf; infer_instance
  | some none, _ => by unfold payOf; infer_instance
  | some (some (_, true, _)), _ => by unfold payOf; infer_instance
  | some (some (_, false, _)), _ => by unfold payOf; infer_instance

/-- One round: a barrier has two duties of one unit (`d`: by the neighbour in direction `d`), a transfer semaphore one. -/
def Rd : Rounds.Schedule (GSem nD τ sig) Bool 𝕄 where
  duties g r := if r = 0 ∧ g.1.2 = .tc then dutiesOf (kdec g.2) else ∅
  unitless _ := False
  amount g _ _ := amountOf (kdec g.2)
  payload g _ d := payOf m g.1.1 (kdec g.2) d
  amount_pos g _ _ _ := amountOf_pos _

instance Rd_payload_storable (g : GSem nD τ sig) (r : ℕ) (d : Bool) : BI.Storable (upEmb : UEmb _ 𝕄) ((Rd (F := F) m).payload g r d) :=
  payOf_storable m g.1.1 (kdec g.2) d

section Sched
variable (c : Dev nD) (d r : Bool) (j : Fin 30)

omit [FloatOps F] in
theorem duties_cell (k : CI) : (Rd (F := F) m).duties (cell c k) 0 = dutiesOf (some k) := by
  show (if 0 = 0 ∧ (c : Thread nD τ).2 = .tc then dutiesOf (kdec (csem k)) else ∅) = _; rw [kdec_csem]; exact if_pos ⟨rfl, rfl⟩
omit [FloatOps F] in
theorem duties_later (g : GSem nD τ sig) : ∀ r, 1 ≤ r → (Rd (F := F) m).duties g r = ∅ := fun r hr => if_neg fun h => by omega
omit [FloatOps F] in
theorem amount_cell (k : CI) (b : Bool) : (Rd (F := F) m).amount (cell c k) 0 b = amountOf (some k) := by
  show amountOf (kdec (csem k)) = _; rw [kdec_csem]
omit [FloatOps F] in
theorem payload_cell (k : CI) (b : Bool) : (Rd (F := F) m).payload (cell c k) 0 b = payOf m c (some k) b := by
  show payOf m c (kdec (csem k)) b = _; rw [kdec_csem]
omit [FloatOps F] in
theorem expect_bar : (Rd (F := F) m).expect (barCell c) 0 = 2 := by
  unfold Schedule.expect Schedule.amountOf
  rw [duties_cell, Finset.sum_congr rfl fun b _ => amount_cell m c none b]; rfl
omit [FloatOps F] in
theorem expect_xfer : (Rd (F := F) m).expect (xferCell c d r j) 0 = N := by
  unfold Schedule.expect Schedule.amountOf
  rw [duties_cell, Finset.sum_congr rfl fun b _ => amount_cell m c (some (d, r, j)) b]; exact Finset.sum_singleton _ _
omit [FloatOps F] in
theorem rest_bar : bigSep ((Rd (F := F) m).duties (barCell c) 0 \ ∅) (fun b => (Rd (F := F) m).payload (barCell c) 0 b)
    = iprop(barPay c true ∗ barPay c false) := by
  rw [Finset.sdiff_empty, duties_cell, show dutiesOf (some none) = Finset.univ from rfl,
    bigSep_univ_eq_bigSepL [true, false] (by decide) (by decide), bigSepL_cons_cons, bigSepL_singleton, payload_cell, payload_cell]
  rfl
omit [FloatOps F] in
theorem rest_xfer : bigSep ((Rd (F := F) m).duties (xferCell c d r j) 0 \ ∅) (fun b => (Rd (F := F) m).payload (xferCell c d r j) 0 b)
    = payOf m c (some (some (d, r, j))) false := by
  rw [Finset.sdiff_empty, duties_cell, show dutiesOf (some (some (d, r, j))) = {false} from rfl, bigSep_singleton, payload_cell]

end Sched

/-! ## What a device owes; the levels -/

/-- The receives of direction `d` that hops `n, n+1, …` still owe the neighbour. -/
def owedD (d : Bool) (c : Dev nD) (n : ℕ) : CellTallies nD τ sig Unit :=
  ∑ j ∈ (Finset.univ : Finset (Fin 30)).filter (fun j => n ≤ j.val), tallyAt (xferCell (nb d c) d true j) () N

theorem owedD_head (d : Bool) (c : Dev nD) {n : ℕ} (h : n < 30) :
    owedD d c n = owedD d c (n + 1) + tallyAt (xferCell (nb d c) d true ⟨n, h⟩) () N := by
  unfold owedD
  have e : (Finset.univ : Finset (Fin 30)).filter (fun j => n ≤ j.val) = insert ⟨n, h⟩ (Finset.univ.filter fun j => n + 1 ≤ j.val) := by
    ext j; simp only [Finset.mem_filter, Finset.mem_univ, true_and, Finset.mem_insert, Fin.ext_iff]; omega
  rw [e, Finset.sum_insert (by simp), add_comm]

theorem owedD_done (d : Bool) (c : Dev nD) {n : ℕ} (h : 30 ≤ n) : owedD d c n = 0 := by
  unfold owedD
  rw [Finset.filter_false_of_mem (fun j _ => by have := j.isLt; omega), Finset.sum_empty]

/-- Both directions' receives, from hop `n` clockwise and from hop `n'` counterclockwise. -/
def owed2 (c : Dev nD) (n n' : ℕ) : CellTallies nD τ sig Unit := owedD true c n + owedD false c n'
def owed1 (c : Dev nD) : CellTallies nD τ sig Unit := owed2 c 0 0 + tallyAt (barCell (right c)) () 1
/-- At the launch: all of them, and a unit at each neighbour's barrier. -/
def O₀ (c : Dev nD) : CellTallies nD τ sig Unit := owed1 c + tallyAt (barCell (left c)) () 1

theorem owed2_cw (c : Dev nD) {n : ℕ} (n' : ℕ) (h : n < 30) :
    owed2 c n n' = owed2 c (n + 1) n' + tallyAt (xferCell (nb true c) true true ⟨n, h⟩) () N := by
  unfold owed2; rw [owedD_head true c h, add_right_comm]
theorem owed2_ccw (c : Dev nD) (n : ℕ) {n' : ℕ} (h : n' < 30) :
    owed2 c n n' = owed2 c n (n' + 1) + tallyAt (xferCell (nb false c) false true ⟨n', h⟩) () N := by
  unfold owed2; rw [owedD_head false c h, add_assoc]
theorem owed2_done (c : Dev nD) {n n' : ℕ} (h : 30 ≤ n) (h' : 30 ≤ n') : owed2 c n n' = 0 := by
  unfold owed2; rw [owedD_done true c h, owedD_done false c h', add_zero]

def L (g : GSem nD τ sig) : Finset Unit := if g.1.2 = .tc then {()} else ∅

def lvOf : Option CI → ℕ
  | some none => 1
  | some (some (_, true, j)) => j.val + 2
  | _ => 0
/-- Barriers at 1, hop `j`'s receives at `j + 2`, everything else at 0. -/
def lv (g : GSem nD τ sig) (_ : Unit) : ℕ := lvOf (kdec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CI) (u : Unit) : lv (cell c k) u = lvOf (some k) := by unfold lv; rw [kdec_csem]

theorem tallyAt_pos {g g' : GSem nD τ sig} {u : Unit} {k : ℕ} (h : 0 < tallyAt g () k g' u) : g' = g := by
  rw [tallyAt_apply] at h; by_contra hn; rw [if_neg fun h' => hn h'.1] at h; exact Nat.lt_irrefl 0 h

theorem owedD_pos {d : Bool} {c : Dev nD} {n : ℕ} {g : GSem nD τ sig} {u : Unit} (h : 0 < owedD d c n g u) :
    ∃ j : Fin 30, n ≤ j.val ∧ g = xferCell (nb d c) d true j := by
  unfold owedD at h
  rw [Finset.sum_apply, Finsupp.finset_sum_apply] at h
  obtain ⟨j, hj, hp⟩ := Finset.exists_ne_zero_of_sum_ne_zero (Nat.pos_iff_ne_zero.mp h)
  exact ⟨j, (Finset.mem_filter.mp hj).2, tallyAt_pos (Nat.pos_of_ne_zero hp)⟩

theorem owed2_pos {c : Dev nD} {n n' : ℕ} {g : GSem nD τ sig} {u : Unit} (h : 0 < owed2 c n n' g u) :
    ∃ (d : Bool) (c' : Dev nD) (j : Fin 30), min n n' ≤ j.val ∧ g = xferCell c' d true j := by
  unfold owed2 at h
  rw [Pi.add_apply, Finsupp.add_apply] at h
  rcases Nat.add_pos_iff_pos_or_pos.mp h with h | h
  · obtain ⟨j, hj, e⟩ := owedD_pos h; exact ⟨true, _, j, (Nat.min_le_left _ _).trans hj, e⟩
  · obtain ⟨j, hj, e⟩ := owedD_pos h; exact ⟨false, _, j, (Nat.min_le_right _ _).trans hj, e⟩

theorem O₀_pos {c : Dev nD} {g : GSem nD τ sig} {u : Unit} (h : 0 < O₀ c g u) :
    (∃ c', g = barCell c') ∨ ∃ (d : Bool) (c' : Dev nD) (j : Fin 30), g = xferCell c' d true j := by
  unfold O₀ owed1 at h
  rw [Pi.add_apply, Finsupp.add_apply, Pi.add_apply, Finsupp.add_apply] at h
  rcases Nat.add_pos_iff_pos_or_pos.mp h with h | h
  · rcases Nat.add_pos_iff_pos_or_pos.mp h with h | h
    · obtain ⟨d, c', j, -, e⟩ := owed2_pos h; exact .inr ⟨d, c', j, e⟩
    · exact .inl ⟨_, tallyAt_pos h⟩
  · exact .inl ⟨_, tallyAt_pos h⟩

omit [FloatOps F] in
/-- A wait on a semaphore none of the ring's, at the launch's debts or none. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', rfl⟩ | ⟨d, c', j, rfl⟩ <;> exact Finset.mem_singleton_self _)
      (fun p hp => by
        rw [Finset.mem_singleton.mp hp]
        show lvOf ((dec q).map some) ≤ 0
        rw [hq]; exact le_rfl)
      (fun g u hg => by
        rcases O₀_pos hg with ⟨c', rfl⟩ | ⟨d, c', j, rfl⟩
        · rw [lv_cell]; exact Nat.one_pos
        · rw [lv_cell]; exact Nat.succ_pos _)
  · rw [MayWait_zero]; iintro -; iempintro

omit [FloatOps F] in
/-- A wait below every hop still owed. -/
theorem mayWait_owed (c : Dev nD) (k : CI) (n n' : ℕ) (h : lvOf (some k) < min n n' + 2) :
    (levAts L lv : sProp 𝕄) ⊢ MayWait (c : Thread nD τ) (csem k) () (owed2 c n n') :=
  MayOwe.of_cut (L := L) (lev := lv) (min n n' + 1) (fun p hp => by rw [Finset.mem_singleton.mp hp, L_tc]; exact Finset.mem_singleton_self _)
    (fun g u hg => by obtain ⟨d, c', j, -, rfl⟩ := owed2_pos hg; exact Finset.mem_singleton_self _)
    (fun p hp => by rw [Finset.mem_singleton.mp hp, lv_cell]; omega)
    (fun g u hg => by
      obtain ⟨d, c', j, hj, rfl⟩ := owed2_pos hg
      rw [lv_cell]; show min n n' + 1 < j.val + 2; omega)

end Cert.KernelIdeal.Ring
-- ==== Proof.KernelIdeal.Pieces.lean ====
/-
  The buffers in pieces: the gathered array is its sixty-four slots, the own rows their four quarters, the result
  its sixty-four runs of rows; what a landing writes and what a load of a piece reads.
-/
module

public import proofs.«01_k».proof.Proof.KernelIdeal.Schedule
public import Idealize.ShloMosaic.Lib.Ring
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The elements of a piece -/

abbrev slotR (s : Fin 64) : Rect S64x64x4096 := Rect.unit (s := S64x64x4096) (slotOff s).off S1x64x4096.size (slotOff s).inb
abbrev ownR (u : Fin 4) : Rect S256x4096 := Rect.unit (s := S256x4096) ![64 * u.val, 0] S64x4096.size (inb_x u)

theorem slot_set (s : Fin 64) : (slotM s).view.set = (slotR s).set :=
  (View.set_reshape _ _).trans (View.set_slice_whole cc0_scratch0 (slotR s))
theorem own_set (u : Fin 4) : (ownM u).view.set = (ownR u).set := View.set_slice_whole cc0_stg0_0 (ownR u)
theorem out_set (s : Fin 64) : ((ops.a4).access (outR s)).set = (outR s).set := View.set_slice_whole cc0_stg4_0 (outR s)

theorem slot_disjoint (s s' : Fin 64) (h : s ≠ s') : Disjoint (slotR s).set (slotR s').set :=
  Idealize.ShloMosaic.Ring.lead_disjoint (s := S64x64x4096) (0 : Fin 3) 1 (fun s : Fin 64 => (slotOff s).off) S1x64x4096.size (fun s => (slotOff s).inb)
    (fun b => (Nat.one_mul _).symm) rfl s s' h
theorem slot_cover : Finset.univ.biUnion (fun s : Fin 64 => (slotR s).set) = Finset.univ :=
  Idealize.ShloMosaic.Ring.lead_cover (s := S64x64x4096) (0 : Fin 3) 1 (fun s : Fin 64 => (slotOff s).off) S1x64x4096.size (fun s => (slotOff s).inb)
    (fun b => (Nat.one_mul _).symm) (by intro b a; fin_cases a <;> first | (intro h; exact absurd rfl h) | (intro _; rfl)) rfl
    (by decide) rfl
theorem own_disjoint (u u' : Fin 4) (h : u ≠ u') : Disjoint (ownR u).set (ownR u').set :=
  Idealize.ShloMosaic.Ring.lead_disjoint (s := S256x4096) (0 : Fin 2) 64 (fun u : Fin 4 => ![64 * u.val, 0]) S64x4096.size inb_x (fun b => rfl) rfl u u' h
theorem own_cover : Finset.univ.biUnion (fun u : Fin 4 => (ownR u).set) = Finset.univ :=
  Idealize.ShloMosaic.Ring.lead_cover (s := S256x4096) (0 : Fin 2) 64 (fun u : Fin 4 => ![64 * u.val, 0]) S64x4096.size inb_x (fun b => rfl)
    (by intro b a; fin_cases a <;> first | (intro h; exact absurd rfl h) | (intro _; rfl)) rfl (by decide) rfl
theorem out_disjoint (s s' : Fin 64) (h : s ≠ s') : Disjoint (outR s).set (outR s').set :=
  Idealize.ShloMosaic.Ring.lead_disjoint (s := S4096x128) (0 : Fin 2) 64 (fun s : Fin 64 => (outOff s).off) S64x128.size (fun s => (outOff s).inb) (fun b => rfl) rfl s s' h
theorem out_cover : Finset.univ.biUnion (fun s : Fin 64 => (outR s).set) = Finset.univ :=
  Idealize.ShloMosaic.Ring.lead_cover (s := S4096x128) (0 : Fin 2) 64 (fun s : Fin 64 => (outOff s).off) S64x128.size (fun s => (outOff s).inb) (fun b => rfl)
    (by intro b a; fin_cases a <;> first | (intro h; exact absurd rfl h) | (intro _; rfl)) rfl (by decide) rfl

/-! ## What a piece reads and is written as -/

theorem slot_emb_lead (s : Fin 64) (z : S64x4096.Idx) : ((slotM s).view.emb z) (0 : Fin 3) = s := by
  have h : (slotM s).view.emb z ∈ (slotR s).set := by rw [← slot_set]; exact Finset.mem_map_of_mem _ (Finset.mem_univ z)
  have h0 := Rect.mem_set_unit.mp h (0 : Fin 3)
  have h1 : (slotOff s).off 0 = s.val := rfl
  have h2 : S1x64x4096.size (0 : Fin 3) = 1 := rfl
  rw [h1, h2] at h0
  exact Fin.ext (by omega)

omit [FloatOps F] in
/-- What a write through a view leaves at its elements, read as the view reads them. -/
theorem read_written {κ : Kind} {sp : Space} {s : Shape} {e : EltTy} (v : View sig κ sp s e) (f : v.ty.Contents (Elt F)) (w : s.Idx → Elt F e)
    (z : s.Idx) : cast (congrArg (Elt F) v.elt_eq) (v.write (Elt F) f w Finset.univ (v.emb z)) = w z :=
  congrFun (View.read_write_univ f w) z

omit [FloatOps F] in
theorem slot_write (s : Fin 64) (f : (cc0_scratch0 : Ref sig .tc).ty.Contents (Elt F)) (z : S64x4096.Idx) :
    (slotM s).view.write (Elt F) f (chunk m s) Finset.univ ((slotM s).view.emb z) = chunk m s z :=
  read_written (slotM s).view f (chunk m s) z

omit [FloatOps F] in
theorem gat_emb (s : Fin 64) (z : S64x4096.Idx) : gat m ((slotM s).view.emb z) = chunk m s z := by
  unfold gat
  rw [slot_emb_lead]
  exact slot_write m s _ z

omit [FloatOps F] in
/-- A slot's rows read back. -/
theorem read_gat (s : Fin 64) : (slotM s).view.read (Elt F) (gat m) = chunk m s := funext fun z => gat_emb m s z

omit [FloatOps F] in
/-- The rows landing in a slot make it what the gathered array holds there. -/
theorem slot_landed (s : Fin 64) (f : (cc0_scratch0 : Ref sig .tc).ty.Contents (Elt F)) :
    ∀ i ∈ (slotM s).view.set, (slotM s).view.write (Elt F) f (chunk m s) Finset.univ i = gat m i := by
  intro i hi
  obtain ⟨z, -, rfl⟩ := Finset.mem_map.mp hi
  rw [gat_emb, slot_write]

omit [FloatOps F] in
theorem read_own (c : Dev nD) (u : Fin 4) : (ownM u).view.read (Elt F) (xstg m c) = chunk m (mine c u) := by
  unfold chunk; rw [devOf_mine, quarter_mine]

theorem out_emb_lead (s : Fin 64) (z : S64x128.Idx) : slotOfRow (((ops.a4).access (outR s)).emb z) = s := by
  have h : ((ops.a4).access (outR s)).emb z ∈ (outR s).set := by rw [← out_set]; exact Finset.mem_map_of_mem _ (Finset.mem_univ z)
  have h0 := Rect.mem_set_unit.mp h (0 : Fin 2)
  have h1 : (outOff s).off 0 = 64 * s.val := rfl
  have h2 : S64x128.size (0 : Fin 2) = 64 := rfl
  rw [h1, h2] at h0
  exact Fin.ext (show _ / 64 = s.val by omega)

theorem out_write (c : Dev nD) (s : Fin 64) (f : (cc0_stg4_0 : Ref sig .tc).ty.Contents (Elt F)) (z : S64x128.Idx) :
    ((ops.a4).access (outR s)).write (Elt F) f (outBlk m c s) Finset.univ (((ops.a4).access (outR s)).emb z) = outBlk m c s z :=
  read_written ((ops.a4).access (outR s)) f (outBlk m c s) z

/-- The result at a row of slot `s`'s. -/
theorem outAt_emb (c : Dev nD) (s : Fin 64) (z : S64x128.Idx) : outAt m c (((ops.a4).access (outR s)).emb z) = outBlk m c s z := by
  unfold outAt
  rw [out_emb_lead]
  exact out_write m c s _ z

theorem out_stored (c : Dev nD) (s : Fin 64) (f : (cc0_stg4_0 : Ref sig .tc).ty.Contents (Elt F)) :
    ∀ i ∈ ((ops.a4).access (outR s)).set, ((ops.a4).access (outR s)).write (Elt F) f (outBlk m c s) Finset.univ i = outAt m c i := by
  intro i hi
  obtain ⟨z, -, rfl⟩ := Finset.mem_map.mp hi
  rw [outAt_emb, out_write]

omit [FloatOps F] in
/-- The load of a landed slot, its leading extent dropped. -/
theorem load_slot (s : Fin 64) (hc : S1x64x4096.ShapeCasts S64x4096) :
    shapeCast S64x4096 ((ops.a5).view.readAt (Elt F) (slotR s).toLoadRect (gat m)) hc = chunk m s := by
  rw [← read_gat]; rfl

omit [FloatOps F] in
/-- The load of an own quarter. -/
theorem load_own (c : Dev nD) (u : Fin 4) (hc : S64x4096.ShapeCasts S64x4096) :
    shapeCast S64x4096 ((ops.a0).view.readAt (Elt F) (ownR u).toLoadRect (xstg m c)) hc = chunk m (mine c u) :=
  (shapeCast_self _ hc).trans (read_own m c u)

/-! ## The pieces' ownership -/

/-- The rows of the result that slot `s` gives, on device `c`. -/
def outPts (c : Dev nD) (s : Fin 64) (f : (cc0_stg4_0 : Ref sig .tc).ty.Contents (Elt F)) : sProp 𝕄 :=
  ((c : Thread nD τ).loc cc0_stg4_0) ↦[((ops.a4).access (outR s)).set]{fullShare} f

omit [FloatOps F] in
theorem bigSep_slots {M : Type} [URA M] (c : Dev nD) (Φ : Fin 64 → sProp M) :
    bigSep Finset.univ Φ = iprop((bigSep Finset.univ fun u => Φ (mine c u)) ∗ (bigSep Finset.univ fun j => Φ (rsl true c j))
      ∗ bigSep Finset.univ fun j => Φ (rsl false c j)) := by
  rw [bigSep_univ_equiv (slotEquiv c), bigSep_univ_sum, bigSep_univ_sum]; rfl

omit [FloatOps F] in
theorem slotPts_eq (c : Dev nD) (s : Fin 64) (q : PosShare TreeShare) (f : Buf (Elt F) ((c : Thread nD τ).loc cc0_scratch0)) :
    slotPts c s q f = (((c : Thread nD τ).loc cc0_scratch0) ↦[(slotR s).set]{q} f : sProp 𝕄) := by
  unfold slotPts; rw [slot_set]
omit [FloatOps F] in
theorem ownPts_eq (c : Dev nD) (u : Fin 4) (q : PosShare TreeShare) :
    ownPts m c u q = (((c : Thread nD τ).loc cc0_stg0_0) ↦[(ownR u).set]{q} xstg m c : sProp 𝕄) := by
  unfold ownPts; rw [own_set]
omit [FloatOps F] in
theorem outPts_eq (c : Dev nD) (s : Fin 64) (f : Buf (Elt F) ((c : Thread nD τ).loc cc0_stg4_0)) :
    outPts c s f = (((c : Thread nD τ).loc cc0_stg4_0) ↦[(outR s).set]{fullShare} f : sProp 𝕄) := by
  unfold outPts; rw [out_set]

omit [FloatOps F] in
/-- The gathered array at any contents is its slots, own and filled clockwise and counterclockwise. -/
theorem slots_split (c : Dev nD) (f : Buf (Elt F) ((c : Thread nD τ).loc cc0_scratch0)) :
    (((c : Thread nD τ).loc cc0_scratch0) ↦{fullShare} f : sProp 𝕄)
      = iprop((bigSep Finset.univ fun u => slotPts c (mine c u) fullShare f) ∗ (bigSep Finset.univ fun j => slotPts c (rsl true c j) fullShare f)
        ∗ bigSep Finset.univ fun j => slotPts c (rsl false c j) fullShare f) :=
  ((Idealize.ShloMosaic.Ring.pointsTo_blocks (ℓ := (c : Thread nD τ).loc cc0_scratch0) (fun s : Fin 64 => (slotR s).set) slot_disjoint slot_cover f).trans
    (bigSep_congr fun s _ => (slotPts_eq c s fullShare f).symm)).trans (bigSep_slots c fun s => slotPts c s fullShare f)

omit [FloatOps F] in
theorem slot_some (c : Dev nD) (s : Fin 64) : iprop(∃ f, slotPts (F := F) c s fullShare f)
    ⊢ (iprop(∃ f : Buf (Elt F) ((c : Thread nD τ).loc cc0_scratch0), ((c : Thread nD τ).loc cc0_scratch0) ↦[(slotR s).set]{fullShare} f) : sProp 𝕄) := by
  iintro ⟨%f, H⟩; iexists f; iapply (Entails.of_eq (slotPts_eq c s fullShare f)); iexact H

omit [FloatOps F] in
theorem slots_join (c : Dev nD) (f₀ : Buf (Elt F) ((c : Thread nD τ).loc cc0_scratch0)) :
    iprop((bigSep Finset.univ fun u => iprop(∃ f, slotPts (F := F) c (mine c u) fullShare f))
        ∗ (bigSep Finset.univ fun j => iprop(∃ f, slotPts (F := F) c (rsl true c j) fullShare f))
        ∗ bigSep Finset.univ fun j => iprop(∃ f, slotPts (F := F) c (rsl false c j) fullShare f))
      ⊢ (iprop(∃ f : Buf (Elt F) ((c : Thread nD τ).loc cc0_scratch0), ((c : Thread nD τ).loc cc0_scratch0) ↦{fullShare} f) : sProp 𝕄) :=
  ((Entails.of_eq (bigSep_slots c (fun s => iprop(∃ f, slotPts (F := F) c s fullShare f))).symm).trans
    (bigSep_mono fun s _ => slot_some c s)).trans
    (Idealize.ShloMosaic.Ring.pointsTo_blocks_join_exists (ℓ := (c : Thread nD τ).loc cc0_scratch0) (fun s : Fin 64 => (slotR s).set)
      slot_disjoint slot_cover f₀)

omit [FloatOps F] in
/-- The own rows at a share are their quarters at it. -/
theorem own_split (c : Dev nD) (q : PosShare TreeShare) :
    (((c : Thread nD τ).loc cc0_stg0_0) ↦{q} xstg m c : sProp 𝕄) = bigSep Finset.univ fun u => ownPts m c u q :=
  (Idealize.ShloMosaic.Ring.pointsTo_blocks (ℓ := (c : Thread nD τ).loc cc0_stg0_0) (fun u : Fin 4 => (ownR u).set) own_disjoint own_cover (xstg m c)).trans
    (bigSep_congr fun u _ => (ownPts_eq m c u q).symm)

omit [FloatOps F] in
/-- The result at any contents is its runs of rows. -/
theorem out_split (c : Dev nD) (f : Buf (Elt F) ((c : Thread nD τ).loc cc0_stg4_0)) :
    (((c : Thread nD τ).loc cc0_stg4_0) ↦{fullShare} f : sProp 𝕄)
      = iprop((bigSep Finset.univ fun u => outPts c (mine c u) f) ∗ (bigSep Finset.univ fun j => outPts c (rsl true c j) f)
        ∗ bigSep Finset.univ fun j => outPts c (rsl false c j) f) :=
  ((Idealize.ShloMosaic.Ring.pointsTo_blocks (ℓ := (c : Thread nD τ).loc cc0_stg4_0) (fun s : Fin 64 => (outR s).set) out_disjoint out_cover f).trans
    (bigSep_congr fun s _ => (outPts_eq c s f).symm)).trans (bigSep_slots c fun s => outPts c s f)

end Cert.KernelIdeal.Ring
-- ==== Proof.KernelIdeal.Steps.lean ====
/-
  One step at a time: a rule for each kind of step of the loops, at any device and either direction, and the rule
  for a loop whose steps keep an invariant.
-/
module

public import proofs.«01_k».proof.Proof.KernelIdeal.Pieces

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` run to `Q`. -/
abbrev wpP (c : Dev nD) (k : Pg F) (Q : PUnit → sProp 𝕄) : sProp 𝕄 :=
  wp frame (wpE (defs₀ (F := F)) 𝒱₀ (c : Thread nD τ) none) Set.univ k Q

/-! ## Loops and families -/

/-- A loop keeps what every one of its steps keeps. -/
theorem wp_loop {n₀ : ℕ} (c : Dev nD) (f : Fin n₀ → Pg F → Pg F) (Q : PUnit → sProp 𝕄) (I : ℕ → sProp 𝕄)
    (step : ∀ (i : Fin n₀) (k : Pg F), I i.val ⊢ iprop((I (i.val + 1) -∗ wpP c k Q) -∗ wpP c (f i k) Q)) :
    ∀ (n : ℕ) (h : n ≤ n₀) (k : Pg F), I (n₀ - n) ⊢ iprop((I n₀ -∗ wpP c k Q) -∗ wpP c (loop f n h k) Q)
  | 0, _, k => by iintro HI Hk; iapply Hk; iexact HI
  | n + 1, h, k => by
    have e : n₀ - (n + 1) + 1 = n₀ - n := by omega
    have s := step ⟨n₀ - (n + 1), by omega⟩ (loop f n (by omega) k)
    dsimp only at s
    rw [e] at s
    have el : loop f (n + 1) h k = f ⟨n₀ - (n + 1), by omega⟩ (loop f n (by omega) k) := rfl
    rw [el]
    iintro HI Hk
    iapply s $$ HI
    iintro HI
    iapply (wp_loop c f Q I step n _ k) $$ HI Hk

/-- A family whose first `n` are past (`A`) and the rest to come (`B`). -/
def fam {n₀ : ℕ} (n : ℕ) (A B : Fin n₀ → sProp 𝕄) : sProp 𝕄 := bigSep Finset.univ fun j => if j.val < n then A j else B j

omit [FloatOps F] in
theorem fam_zero {n₀ : ℕ} (A B : Fin n₀ → sProp 𝕄) : fam 0 A B = bigSep Finset.univ B :=
  bigSep_congr fun j _ => if_neg (Nat.not_lt_zero _)
omit [FloatOps F] in
theorem fam_full {n₀ : ℕ} (A B : Fin n₀ → sProp 𝕄) : fam n₀ A B = bigSep Finset.univ A :=
  bigSep_congr fun j _ => if_pos j.isLt
omit [FloatOps F] in
/-- The next of a family, to be put back past. -/
theorem fam_next {n₀ n : ℕ} (A B : Fin n₀ → sProp 𝕄) (h : n < n₀) :
    fam n A B ⊢ iprop(B ⟨n, h⟩ ∗ (A ⟨n, h⟩ -∗ fam (n + 1) A B)) := by
  have e₁ : fam n A B = iprop(B ⟨n, h⟩ ∗ bigSep (Finset.univ.erase ⟨n, h⟩) fun j => if j.val < n then A j else B j) := by
    unfold fam
    rw [bigSep_erase (Finset.mem_univ (⟨n, h⟩ : Fin n₀)), if_neg (Nat.lt_irrefl n)]; rfl
  have e₂ : fam (n + 1) A B = iprop(A ⟨n, h⟩ ∗ bigSep (Finset.univ.erase ⟨n, h⟩) fun j => if j.val < n then A j else B j) := by
    unfold fam
    rw [bigSep_erase (Finset.mem_univ (⟨n, h⟩ : Fin n₀)), if_pos (Nat.lt_succ_self n)]
    refine congrArg (fun X : sProp 𝕄 => iprop(A ⟨n, h⟩ ∗ X)) (bigSep_congr fun j hj => ?_)
    have hne : j.val ≠ n := fun e => (Finset.ne_of_mem_erase hj) (Fin.ext e)
    by_cases hlt : j.val < n
    · rw [if_pos hlt, if_pos (by omega)]
    · rw [if_neg hlt, if_neg (by omega)]
  rw [e₁, e₂]
  iintro ⟨HB, Hr⟩
  isplitl [HB]; · iexact HB
  iintro HA
  isplitl [HA] <;> iassumption

/-! ## The records of the whole mesh -/

/-- Every semaphore's invariant, and that its round is open, under the names `K`. -/
def records (K : Dev nD × CI → ℕ) : sProp 𝕄 :=
  bigSep Finset.univ fun ck => iprop(cellInv ER (Rd m) (K ck) (cell ck.1 ck.2) ∗ reached ER (cell ck.1 ck.2) 0)

instance records_persistent (K) : BI.Persistent (records m K) := by unfold records; infer_instance

omit [FloatOps F] in
theorem records_at (K : Dev nD × CI → ℕ) (c : Dev nD) (k : CI) :
    records m K ⊢ iprop(cellInv ER (Rd m) (K (c, k)) (cell c k) ∗ reached ER (cell c k) 0) :=
  bigSep_elim (Finset.mem_univ (c, k))

/-- A device's debts, whatever its waits have recorded. -/
def owesAny (c : Dev nD) (O : CellTallies nD τ sig Unit) : sProp 𝕄 := iprop(∃ W, owes (c : Thread nD τ) O W)

variable (K : Dev nD × CI → ℕ)

/-! ## Sending -/

/-- Hop `j`'s send in a direction. -/
def sendD (d : Bool) (c : Dev nD) (j : Fin 30) (k : Pg F) : Pg F :=
  sendOp (nb d c) (ops.src j (slotOff (ssl d c j))) (ops.slot (slotOff (ssl d c j))) (semD d false j) (semD d true j) k

theorem sendCw_eq (c : Dev nD) (j : Fin 30) (k : Pg F) : sendCw ops (canon c) j k = sendD true c j k := rfl
theorem sendCcw_eq (c : Dev nD) (j : Fin 30) (k : Pg F) : sendCcw ops (canon c) j k = sendD false c j k := rfl

theorem ssl_mine (d : Bool) (c : Dev nD) (u : Fin 4) : ssl d c ⟨u.val, by omega⟩ = mine c u := by
  cases d
  · exact sccw_mine c u
  · exact scw_mine c u

theorem rsl_nb (d : Bool) (c : Dev nD) (j : Fin 30) : rsl d (nb d c) j = ssl d c j := rfl

/-- What a device holds to make hop `j`'s send: the two duties it pays, and the slot it fills. -/
def ticket (d : Bool) (c : Dev nD) (j : Fin 30) : sProp 𝕄 :=
  iprop(dutyTok ER (xferCell c d false j) 0 false ∗ dutyTok ER (xferCell (nb d c) d true j) 0 false
    ∗ ∃ f, slotPts (F := F) (nb d c) (ssl d c j) fullShare f)
/-- What it holds after: the credit of its own send semaphore. -/
def sent (d : Bool) (c : Dev nD) (j : Fin 30) : sProp 𝕄 := cred (tallyAt (xferCell c d false j) () N)

theorem send_mem (c : Dev nD) (d : Bool) (j : Fin 30) : false ∈ (Rd m).duties (cell c (some (d, false, j))) 0 := by
  rw [duties_cell]; exact Finset.mem_singleton_self _
theorem recv_mem (c : Dev nD) (d : Bool) (j : Fin 30) : false ∈ (Rd m).duties (cell (nb d c) (some (d, true, j))) 0 := by
  rw [duties_cell]; exact Finset.mem_singleton_self _

theorem slot_amount (s : Fin 64) (e : Fin sig.nDmaSem) : (slotM s).view.amount (.dma e) = N := rfl

/-- A send of a source that reads as the slot's chunk. -/
theorem wp_send_from (d : Bool) (c : Dev nD) (j : Fin 30) (src : Memref sig .tc .vmem S64x4096 .fp8e4m3) (q : PosShare TreeShare)
    (fs : Buf (Elt F) (src.view.loc (c : Thread nD τ)))
    (hp : (src.view.loc (c : Thread nD τ) ↦[src.view.set]{q} fs) ⊢ sendPay (F := F) m c d j)
    (hr : src.view.read (Elt F) fs = chunk m (ssl d c j))
    (fd : Buf (Elt F) ((nb d c : Thread nD τ).loc cc0_scratch0)) (O : CellTallies nD τ sig Unit) (W : Waits sig Unit)
    {hsc : (slotM (ssl d c j)).view.ref.isScScratch = false}
    {hsrc : src.view.WordExact} {hdst : (slotM (ssl d c j)).view.WordExact}
    {hsem : DmaTarget.Typed .vmem (.dma (semD d true j)) (.remote (nb d c : Thread nD τ) (slotM (ssl d c j)) (.dma (semD d false j)) hsc)}
    {k : PUnit → Pg F} {Q : PUnit → sProp 𝕄} :
    iprop(cellInv ER (Rd m) (K (c, some (d, false, j))) (xferCell c d false j) ∗ cellInv ER (Rd m) (K (nb d c, some (d, true, j))) (xferCell (nb d c) d true j)
        ∗ (src.view.loc (c : Thread nD τ) ↦[src.view.set]{q} fs) ∗ slotPts (nb d c) (ssl d c j) fullShare fd
        ∗ owes (c : Thread nD τ) (O + tallyAt (xferCell (nb d c) d true j) () N) W
        ∗ dutyTok ER (xferCell c d false j) 0 false ∗ reached ER (xferCell c d false j) 0
        ∗ dutyTok ER (xferCell (nb d c) d true j) 0 false ∗ reached ER (xferCell (nb d c) d true j) 0)
      ⊢ iprop(((cred (tallyAt (xferCell c d false j) () N) ∗ owes (c : Thread nD τ) O W) -∗ wpP c (k ⟨⟩) Q)
          -∗ wpP c (.op (.enqueueDma src (.remote (nb d c : Thread nD τ) (slotM (ssl d c j)) (.dma (semD d false j)) hsc) (.dma (semD d true j)) hsrc hdst hsem) k) Q) := by
  have hpay : ((slotM (ssl d c j)).view.loc (nb d c : Thread nD τ) ↦[(slotM (ssl d c j)).view.set]{fullShare}
      ((slotM (ssl d c j)).view.write (Elt F) fd (src.view.read (Elt F) fs) Finset.univ) : sProp 𝕄)
      ⊢ (Rd m).payload (xferCell (nb d c) d true j) 0 false := by
    have e : (Rd m).payload (xferCell (nb d c) d true j) 0 false = slotPts (nb d c) (ssl d c j) fullShare (gat m) :=
      payload_cell m (nb d c) (some (d, true, j)) false
    rw [e, hr]
    unfold slotPts
    exact Entails.of_eq (pointsTo_congr fun i hi => slot_landed m (ssl d c j) fd i hi)
  have hpay' : (src.view.loc (c : Thread nD τ) ↦[src.view.set]{q} fs) ⊢ (Rd m).payload (xferCell c d false j) 0 false := by
    have e : (Rd m).payload (xferCell c d false j) 0 false = sendPay m c d j :=
      payload_cell m c (some (d, false, j)) false
    rw [e]; exact hp
  have hrt : τ.routes (c : Thread nD τ) (nb d c : Thread nD τ) = true := by routes
  unfold slotPts
  have h := Rounds.wp_send_pointsTo (Γ := .empty) (defs := defs₀ (F := F)) 𝒱₀ ER (Rd m) (c : Thread nD τ) none (c' := (nb d c : Thread nD τ)) (src := src) (dst := slotM (ssl d c j))
    (sS := .dma (semD d false j)) (sem := .dma (semD d true j)) (hsc := hsc) (hsrc := hsrc) (hdst := hdst) (hsem := hsem)
    (κ₁ := K (c, some (d, false, j))) (κ₂ := K (nb d c, some (d, true, j)))
    (k := k) (Q := Q) (q := q) (fs := fs) (Es := Set.univ)
    (r₁ := 0) (r₂ := 0) (d₁ := false) (d₂ := false) (fd := fd)
    (send_mem m c d j) (recv_mem m c d j) () () N (slot_amount _ _)
    (amount_cell m c (some (d, false, j)) false) (amount_cell m (nb d c) (some (d, true, j)) false)
    (O₀ := O + tallyAt (xferCell (nb d c) d true j) () N) O rfl (W := W) hpay' hpay hrt
  exact h

/-- The send pays its two duties, and spends one of the debts. -/
theorem wp_sendD (d : Bool) (c : Dev nD) (j : Fin 30) (O : CellTallies nD τ sig Unit) (k : Pg F) (Q : PUnit → sProp 𝕄) :
    iprop(records m K ∗ sendPay m c d j ∗ ticket d c j ∗ owesAny c (O + tallyAt (xferCell (nb d c) d true j) () N))
      ⊢ iprop((iprop(sent d c j ∗ owesAny c O) -∗ wpP c k Q) -∗ wpP c (sendD d c j k) Q) := by
  unfold ticket sent owesAny sendD sendOp
  by_cases h : j.val < 4
  · have hs : ops.src j (slotOff (ssl d c j)) = ops.own ⟨j.val, h⟩ := dif_pos h
    have hp : sendPay (F := F) m c d j = ownPts m c ⟨j.val, h⟩ (sendQ d) := dif_pos h
    have hm : ssl d c j = mine c ⟨j.val, h⟩ := ssl_mine d c ⟨j.val, h⟩
    rw [hs, hp]
    iintro ⟨#HR, Hsrc, ⟨Ht₁, Ht₂, ⟨%fd, Hd⟩⟩, ⟨%W, HO⟩⟩ Hk
    ihave H₁ := (records_at m K c (some (d, false, j))) $$ HR
    ihave H₂ := (records_at m K (nb d c) (some (d, true, j))) $$ HR
    icases H₁ with ⟨#HI₁, #Hr₁⟩
    icases H₂ with ⟨#HI₂, #Hr₂⟩
    iapply (wp_send_from m K d c j (ownM ⟨j.val, h⟩) (sendQ d) (xstg m c) (Entails.of_eq hp.symm) ((read_own m c ⟨j.val, h⟩).trans (congrArg (chunk m) hm.symm)) fd O W) $$ [Hsrc Hd HO Ht₁ Ht₂]
    · isplitr; · iexact HI₁
      isplitr; · iexact HI₂
      isplitl [Hsrc]; · unfold ownPts; iexact Hsrc
      isplitl [Hd]; · iexact Hd
      isplitl [HO]; · iexact HO
      isplitl [Ht₁]; · iexact Ht₁
      isplitr; · iexact Hr₁
      isplitl [Ht₂]; · iexact Ht₂
      iexact Hr₂
    iintro ⟨Hc, HO⟩
    iapply Hk
    isplitl [Hc]; · iexact Hc
    iexists W; iexact HO
  · have hs : ops.src j (slotOff (ssl d c j)) = ops.slot (slotOff (ssl d c j)) := dif_neg h
    have hp : sendPay (F := F) m c d j = slotPts c (ssl d c j) fullShare.right (gat m) := dif_neg h
    rw [hs, hp]
    iintro ⟨#HR, Hsrc, ⟨Ht₁, Ht₂, ⟨%fd, Hd⟩⟩, ⟨%W, HO⟩⟩ Hk
    ihave H₁ := (records_at m K c (some (d, false, j))) $$ HR
    ihave H₂ := (records_at m K (nb d c) (some (d, true, j))) $$ HR
    icases H₁ with ⟨#HI₁, #Hr₁⟩
    icases H₂ with ⟨#HI₂, #Hr₂⟩
    iapply (wp_send_from m K d c j (slotM (ssl d c j)) fullShare.right (gat m) (Entails.of_eq hp.symm) (read_gat m (ssl d c j)) fd O W) $$ [Hsrc Hd HO Ht₁ Ht₂]
    · isplitr; · iexact HI₁
      isplitr; · iexact HI₂
      isplitl [Hsrc]; · unfold slotPts; iexact Hsrc
      isplitl [Hd]; · iexact Hd
      isplitl [HO]; · iexact HO
      isplitl [Ht₁]; · iexact Ht₁
      isplitr; · iexact Hr₁
      isplitl [Ht₂]; · iexact Ht₂
      iexact Hr₂
    iintro ⟨Hc, HO⟩
    iapply Hk
    isplitl [Hc]; · iexact Hc
    iexists W; iexact HO

/-! ## Waiting -/

theorem src_credit (j : Fin 30) (o : SlotOff) : (ops.src j o).m.view.dmaCredit = N := by
  unfold Args.src; split <;> rfl
theorem slot_credit (o : SlotOff) : (ops.slot o).m.view.dmaCredit = N := rfl

/-- A wait on one of its transfer semaphores: the landing's payload, the semaphore closed at zero. -/
theorem wp_waitD (d r : Bool) (c : Dev nD) (j : Fin 30) (s t : End) (ht : t.m.view.dmaCredit = N) (O : CellTallies nD τ sig Unit)
    (hO : (levAts L lv : sProp 𝕄) ⊢ MayWait (c : Thread nD τ) (csem (some (d, r, j))) () O) (k : Pg F) (Q : PUnit → sProp 𝕄) :
    iprop(records m K ∗ levAts L lv ∗ cred (tallyAt (xferCell c d r j) () N) ∗ atPos ER (xferCell c d r j) 0 ∅ 0 ∗ owesAny c O)
      ⊢ iprop((iprop(payOf m c (some (some (d, r, j))) false ∗ semVal (xferCell c d r j) 0 ∗ owesAny c O) -∗ wpP c k Q)
          -∗ wpP c (waitOp (semD d r j) s t k) Q) := by
  unfold owesAny
  iintro ⟨#HR, #Hlev, Hc, Hat, ⟨%W, HO⟩⟩ Hk
  ihave H₁ := (records_at m K c (some (d, r, j))) $$ HR
  icases H₁ with ⟨#HI, -⟩
  unfold waitOp
  iapply (Rounds.wp_wait_rest_token 𝒱₀ ER (Rd m) (c : Thread nD τ) none (κ := K (c, some (d, r, j))) (sm := csem (some (d, r, j)))
      (wpE_waitDma2_eq 𝒱₀ (c : Thread nD τ) none Set.univ) (Set.mem_univ _) () (O := O) (W := W) (R := 0) (m := 0) (T := ∅)
      (by rw [Nat.zero_add, ht]; exact (expect_xfer m c d r j).symm)) $$ [Hc HO Hat]
  · isplitr; · iexact HI
    isplitl [Hc]; · rw [ht]; iexact Hc
    isplitl [HO]; · iexact HO
    isplitr; · iapply hO; iexact Hlev
    iexact Hat
  iintro ⟨HO, Hat, -, Hpay⟩
  ihave Hp := (Entails.of_eq (rest_xfer m c d r j)) $$ Hpay
  imod (Rounds.cell_close ER (Rd m) (Set.mem_univ (K (c, some (d, r, j)))) (fun h => h) (R := 0 + 1) (duties_later m (xferCell c d r j))) $$ [Hat] with Hz
  · isplitr; · iexact HI
    iexact Hat
  iapply Hk
  isplitl [Hp]; · iexact Hp
  isplitl [Hz]; · iexact Hz
  iexists _; iexact HO

/-! ## Multiplying -/

/-- The right operand's block and the scales, as staged. -/
def ins (c : Dev nD) : sProp 𝕄 :=
  iprop((((c : Thread nD τ).loc cc0_stg1_0) ↦{fullShare} wstg m c) ∗ (((c : Thread nD τ).loc cc0_stg2_0) ↦{fullShare} sxstg m c)
    ∗ ((c : Thread nD τ).loc cc0_stg3_0) ↦{fullShare} swstg m c)

theorem wp_finish (c : Dev nD) (s : Fin 64) (k : Pg F) (Q : PUnit → sProp 𝕄) :
    iprop(ins m c ∗ ∃ f, outPts (F := F) c s f)
      ⊢ iprop((iprop(ins m c ∗ outPts c s (outAt m c)) -∗ wpP c k Q) -∗ wpP c (finishOp ops (chunk m s) (outOff s) k) Q) := by
  unfold ins outPts
  iintro ⟨⟨Hw, Hsx, Hsw⟩, ⟨%f, Hout⟩⟩ Hk
  unfold finishOp
  iapply (wp_load 𝒱₀ (c : Thread nD τ) none Set.univ (m := ops.a1) (S := Finset.univ) (Finset.subset_univ _)) $$ Hw; iintro Hw
  iapply (wp_load 𝒱₀ (c : Thread nD τ) none Set.univ (m := ops.a2) (S := Finset.univ) (Finset.subset_univ _)) $$ Hsx; iintro Hsx
  iapply (wp_load 𝒱₀ (c : Thread nD τ) none Set.univ (m := ops.a3) (S := Finset.univ) (Finset.subset_univ _)) $$ Hsw; iintro Hsw
  iapply (wp_load_rect 𝒱₀ (c : Thread nD τ) none Set.univ (m := ops.a4) (r := outR s) (S := ((ops.a4).access (outR s)).set) subset_rfl) $$ Hout; iintro Hout
  iapply (wp_store 𝒱₀ (c : Thread nD τ) none Set.univ (m := ops.a4) (r := outR s) (Mk := Finset.univ) (S := ((ops.a4).access (outR s)).set) subset_rfl) $$ Hout
  iintro Hout
  iapply Hk
  isplitl [Hw Hsx Hsw]
  · isplitl [Hw]; · iexact Hw
    isplitl [Hsx] <;> iassumption
  iapply (Entails.of_eq (pointsTo_congr (out_stored m c s f))); iexact Hout

/-- An own quarter multiplied. -/
theorem wp_own (c : Dev nD) (u : Fin 4) (k : Pg F) (Q : PUnit → sProp 𝕄) :
    iprop((((c : Thread nD τ).loc cc0_stg0_0) ↦{keepQ} xstg m c) ∗ ins m c ∗ ∃ f, outPts (F := F) c (mine c u) f)
      ⊢ iprop((iprop((((c : Thread nD τ).loc cc0_stg0_0) ↦{keepQ} xstg m c) ∗ ins m c ∗ outPts c (mine c u) (outAt m c)) -∗ wpP c k Q)
          -∗ wpP c (ownOp ops u (outOff (mine c u)) k) Q) := by
  iintro ⟨Hx, Hin, Hout⟩ Hk
  unfold ownOp
  iapply (wp_load 𝒱₀ (c : Thread nD τ) none Set.univ (m := ops.a0) (S := Finset.univ) (Finset.subset_univ _)) $$ Hx; iintro Hx
  rw [load_own]
  iapply (wp_finish m c (mine c u) k Q) $$ [Hin Hout]
  · isplitl [Hin] <;> iassumption
  iintro ⟨Hin, Hout⟩
  iapply Hk
  isplitl [Hx]; · iexact Hx
  isplitl [Hin] <;> iassumption

/-- A landed slot multiplied, at a share of it. -/
theorem wp_gat (c : Dev nD) (s : Fin 64) (q : PosShare TreeShare) (k : Pg F) (Q : PUnit → sProp 𝕄) :
    iprop(slotPts c s q (gat m) ∗ ins m c ∗ ∃ f, outPts (F := F) c s f)
      ⊢ iprop((iprop(slotPts c s q (gat m) ∗ ins m c ∗ outPts c s (outAt m c)) -∗ wpP c k Q)
          -∗ wpP c (gatOp ops (loadOff s) (outOff s) k) Q) := by
  unfold slotPts
  iintro ⟨Hx, Hin, Hout⟩ Hk
  unfold gatOp
  iapply (wp_load_rect 𝒱₀ (c : Thread nD τ) none Set.univ (m := ops.a5) (r := slotR s) (S := (slotM s).view.set)
    (by rw [slot_set]; exact subset_of_eq (View.set_slice_whole cc0_scratch0 (slotR s)))) $$ Hx; iintro Hx
  have e := load_slot m s shapeCasts_S1x64x4096_S64x4096
  iapply (Entails.of_eq (congrArg (fun v => wpP c (finishOp ops v (outOff s) k) Q) e.symm))
  iapply (wp_finish m c s k Q) $$ [Hin Hout]
  · isplitl [Hin] <;> iassumption
  iintro ⟨Hin, Hout⟩
  iapply Hk
  isplitl [Hx]; · iexact Hx
  isplitl [Hin] <;> iassumption

end Cert.KernelIdeal.Ring
-- ==== Proof.KernelIdeal.Hops.lean ====
/-
  The loops of the body: the four opening sends, the own quarters, the thirty hops, and the waits for the sends.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Which send a hop makes possible -/

def nxtCw (j : Fin 30) : Option (Fin 30) := if h : j.val + 4 < 30 then some ⟨j.val + 4, h⟩ else none
def nxtCcw (j : Fin 30) : Option (Fin 30) :=
  if h : j.val + 4 < 28 then some ⟨j.val + 4, by omega⟩
  else if h : 26 ≤ j.val ∧ j.val < 28 then some ⟨j.val + 2, by omega⟩ else none
/-- The send that passes on what hop `j` brought, if there is one. -/
def nxt (d : Bool) (j : Fin 30) : Option (Fin 30) := if d then nxtCw j else nxtCcw j

/-- How many sends of a direction are under way before hop `n`. -/
def cnt : Bool → ℕ → ℕ
  | true, n => min (n + 4) 30
  | false, n => if n ≤ 26 then min (n + 4) 28 else min (n + 2) 30

theorem nxt_val : ∀ (d : Bool) (j j' : Fin 30), nxt d j = some j' → j'.val = cnt d j.val ∧ 4 ≤ j'.val := by decide +kernel
theorem cnt_some : ∀ (d : Bool) (j : Fin 30), (nxt d j).isSome = true → cnt d (j.val + 1) = cnt d j.val + 1 := by decide +kernel
theorem cnt_none : ∀ (d : Bool) (j : Fin 30), nxt d j = none → cnt d (j.val + 1) = cnt d j.val := by decide +kernel
theorem cnt_gt : ∀ (d : Bool) (j : Fin 30), j.val < cnt d j.val ∧ j.val < cnt d (j.val + 1) := by decide +kernel
theorem nxt_slot (d : Bool) (c : Dev nD) (j j' : Fin 30) (h : nxt d j = some j') : ssl d c j' = rsl d c j := by
  cases d
  · have h : nxtCcw j = some j' := h
    unfold nxtCcw at h
    by_cases h₁ : j.val + 4 < 28
    · rw [dif_pos h₁] at h; rw [← Option.some.inj h]; exact sccw_fwd c j h₁
    · rw [dif_neg h₁] at h
      by_cases h₂ : 26 ≤ j.val ∧ j.val < 28
      · rw [dif_pos h₂] at h; rw [← Option.some.inj h]; exact sccw_fwd' c j h₂
      · rw [dif_neg h₂] at h; exact absurd h (by simp)
  · have h : nxtCw j = some j' := h
    unfold nxtCw at h
    by_cases h₁ : j.val + 4 < 30
    · rw [dif_pos h₁] at h; rw [← Option.some.inj h]; exact scw_fwd c j h₁
    · rw [dif_neg h₁] at h; exact absurd h (by simp)

/-- The send after a hop, if there is one. -/
def nextD (d : Bool) (c : Dev nD) (j : Fin 30) (k : Pg F) : Pg F :=
  match nxt d j with
  | some j' => sendD d c j' k
  | none => k

theorem nextCw_eq (c : Dev nD) (j : Fin 30) (k : Pg F) : nextCw ops (canon c) j k = nextD true c j k := by
  have e : nxt true j = nxtCw j := rfl
  unfold nextCw nextD
  rw [e]; unfold nxtCw
  by_cases h : j.val + 4 < 30
  · rw [dif_pos h, dif_pos h]; rfl
  · rw [dif_neg h, dif_neg h]
theorem nextCcw_eq (c : Dev nD) (j : Fin 30) (k : Pg F) : nextCcw ops (canon c) j k = nextD false c j k := by
  have e : nxt false j = nxtCcw j := rfl
  unfold nextCcw nextD
  rw [e]; unfold nxtCcw
  by_cases h : j.val + 4 < 28
  · rw [dif_pos h, dif_pos h]; rfl
  · rw [dif_neg h, dif_neg h]
    by_cases h' : 26 ≤ j.val ∧ j.val < 28
    · rw [dif_pos h', dif_pos h']; rfl
    · rw [dif_neg h', dif_neg h']

/-! ## What the hops keep -/

/-- Before hop `j`'s landing: its credit and its place at the semaphore. -/
def awaits (d : Bool) (c : Dev nD) (j : Fin 30) : sProp 𝕄 :=
  iprop(cred (tallyAt (xferCell c d true j) () N) ∗ atPos ER (xferCell c d true j) 0 ∅ 0)
/-- The half of a landed slot that is not sent on. -/
def spare (d : Bool) (c : Dev nD) (j : Fin 30) : sProp 𝕄 :=
  if (nxt d j).isSome then iprop(emp) else slotPts c (rsl d c j) fullShare.right (gat m)
/-- After it: the slot less the half sent on, and the semaphore closed. -/
def landedAt (d : Bool) (c : Dev nD) (j : Fin 30) : sProp 𝕄 :=
  iprop(slotPts c (rsl d c j) fullShare.left (gat m) ∗ spare m d c j ∗ semVal (xferCell c d true j) 0)

/-- The sends of a direction, `n` of them made. -/
abbrev sends (d : Bool) (c : Dev nD) (n : ℕ) : sProp 𝕄 := fam n (sent (F := F) d c) (ticket d c)
/-- The landings of a direction, `n` of them past. -/
abbrev lands (d : Bool) (c : Dev nD) (n : ℕ) : sProp 𝕄 := fam n (landedAt m d c) (awaits d c)
/-- The rows of the result the landings give, `n` of them stored. -/
abbrev outs (d : Bool) (c : Dev nD) (n : ℕ) : sProp 𝕄 :=
  fam n (fun j : Fin 30 => outPts c (rsl d c j) (outAt m c)) (fun j => iprop(∃ f, outPts (F := F) c (rsl d c j) f))

omit [FloatOps F] in
/-- The next send's record, its number given. -/
theorem sends_next (d : Bool) (c : Dev nD) (j : Fin 30) {n : ℕ} (h : j.val = n) :
    sends (F := F) d c n ⊢ iprop(ticket d c j ∗ (sent d c j -∗ sends d c (n + 1))) := by
  subst h; exact fam_next (sent d c) (ticket d c) j.isLt
omit [FloatOps F] in
theorem owed_next (d : Bool) (c : Dev nD) (j : Fin 30) {n : ℕ} (h : j.val = n) (O : CellTallies nD τ sig Unit) :
    owedD d c n + O = (owedD d c (n + 1) + O) + tallyAt (xferCell (nb d c) d true j) () N := by
  subst h; rw [owedD_head d c j.isLt, add_right_comm]

omit [FloatOps F] in
/-- The next landing's record. -/
theorem lands_next (d : Bool) (c : Dev nD) (j : Fin 30) :
    lands m d c j.val ⊢ iprop((cred (tallyAt (xferCell c d true j) () N) ∗ atPos ER (xferCell c d true j) 0 ∅ 0)
      ∗ (iprop(slotPts c (rsl d c j) fullShare.left (gat m) ∗ spare m d c j ∗ semVal (xferCell c d true j) 0) -∗ lands m d c (j.val + 1))) :=
  fam_next (landedAt m d c) (awaits d c) j.isLt

/-- The wait for hop `j`'s landing: the slot, landed. -/
theorem wp_waitRecv (d : Bool) (c : Dev nD) (j : Fin 30) (s t : End) (ht : t.m.view.dmaCredit = N) (O : CellTallies nD τ sig Unit)
    (hO : (levAts L lv : sProp 𝕄) ⊢ MayWait (c : Thread nD τ) (csem (some (d, true, j))) () O) (k : Pg F) (Q : PUnit → sProp 𝕄) :
    iprop(records m K ∗ levAts L lv ∗ cred (tallyAt (xferCell c d true j) () N) ∗ atPos ER (xferCell c d true j) 0 ∅ 0 ∗ owesAny c O)
      ⊢ iprop((iprop(slotPts c (rsl d c j) fullShare (gat m) ∗ semVal (xferCell c d true j) 0 ∗ owesAny c O) -∗ wpP c k Q)
          -∗ wpP c (waitOp (semD d true j) s t k) Q) :=
  wp_waitD m K d true c j s t ht O hO k Q

/-- The wait for hop `j`'s send: the share it was sent from. -/
theorem wp_waitSend (d : Bool) (c : Dev nD) (j : Fin 30) (s t : End) (ht : t.m.view.dmaCredit = N) (O : CellTallies nD τ sig Unit)
    (hO : (levAts L lv : sProp 𝕄) ⊢ MayWait (c : Thread nD τ) (csem (some (d, false, j))) () O) (k : Pg F) (Q : PUnit → sProp 𝕄) :
    iprop(records m K ∗ levAts L lv ∗ cred (tallyAt (xferCell c d false j) () N) ∗ atPos ER (xferCell c d false j) 0 ∅ 0 ∗ owesAny c O)
      ⊢ iprop((iprop(sendPay m c d j ∗ semVal (xferCell c d false j) 0 ∗ owesAny c O) -∗ wpP c k Q)
          -∗ wpP c (waitOp (semD d false j) s t k) Q) :=
  wp_waitD m K d false c j s t ht O hO k Q

/-- What a hop brought, half of it sent on if the hop is not among a direction's last. -/
theorem wp_next (d : Bool) (c : Dev nD) (j : Fin 30) (O : CellTallies nD τ sig Unit) (k : Pg F) (Q : PUnit → sProp 𝕄) :
    iprop(records m K ∗ slotPts c (rsl d c j) fullShare (gat m) ∗ sends d c (cnt d j.val) ∗ owesAny c (owedD d c (cnt d j.val) + O))
      ⊢ iprop((iprop(slotPts c (rsl d c j) fullShare.left (gat m) ∗ spare m d c j ∗ sends d c (cnt d (j.val + 1))
            ∗ owesAny c (owedD d c (cnt d (j.val + 1)) + O)) -∗ wpP c k Q)
          -∗ wpP c (nextD d c j k) Q) := by
  unfold nextD spare
  have hsplit : slotPts (F := F) c (rsl d c j) fullShare (gat m)
      ⊢ iprop(slotPts c (rsl d c j) fullShare.left (gat m) ∗ slotPts c (rsl d c j) fullShare.right (gat m)) := by
    unfold slotPts; exact (pointsTo_share (PosShare.mem_left_op_right fullShare)).1
  match hn : nxt d j with
  | none =>
    rw [cnt_none d j hn, if_neg (by decide)]
    iintro ⟨#HR, Hs, Hf, HO⟩ Hk
    ihave H := hsplit $$ Hs
    icases H with ⟨Hl, Hr⟩
    iapply Hk
    isplitl [Hl]; · iexact Hl
    isplitl [Hr]; · iexact Hr
    isplitl [Hf] <;> iassumption
  | some j' =>
    obtain ⟨hv, h4⟩ := nxt_val d j j' hn
    have hp : slotPts (F := F) c (rsl d c j) fullShare.right (gat m) = sendPay m c d j' := by
      unfold sendPay; rw [dif_neg (by omega), nxt_slot d c j j' hn]
    rw [if_pos (show (some j').isSome = true from rfl), cnt_some d j (by rw [hn]; rfl), owed_next d c j' hv O]
    rw [hp] at hsplit
    iintro ⟨#HR, Hs, Hf, HO⟩ Hk
    ihave H := hsplit $$ Hs
    icases H with ⟨Hl, Hr⟩
    ihave Hf := (sends_next d c j' hv) $$ Hf
    icases Hf with ⟨Ht, Hf⟩
    iapply (wp_sendD m K d c j' (owedD d c (cnt d j.val + 1) + O) k Q) $$ [Hr Ht HO]
    · isplitr; · iexact HR
      isplitl [Hr]; · iexact Hr
      isplitl [Ht] <;> iassumption
    iintro ⟨Hc, HO⟩
    iapply Hk
    isplitl [Hl]; · iexact Hl
    isplitr; · iempintro
    isplitl [Hf Hc]; · iapply Hf; iexact Hc
    iexact HO

/-- A landed slot multiplied, among the rows of the result. -/
theorem wp_gatD (d : Bool) (c : Dev nD) (j : Fin 30) (k : Pg F) (Q : PUnit → sProp 𝕄) :
    iprop(slotPts c (rsl d c j) fullShare.left (gat m) ∗ ins m c ∗ outs m d c j.val)
      ⊢ iprop((iprop(slotPts c (rsl d c j) fullShare.left (gat m) ∗ ins m c ∗ outs m d c (j.val + 1)) -∗ wpP c k Q)
          -∗ wpP c (gatOp ops (loadOff (rsl d c j)) (outOff (rsl d c j)) k) Q) := by
  have ho := fam_next (fun j : Fin 30 => outPts c (rsl d c j) (outAt m c)) (fun j => iprop(∃ f, outPts (F := F) c (rsl d c j) f)) j.isLt
  iintro ⟨Hs, Hin, Hf⟩ Hk
  ihave Hf := ho $$ Hf
  icases Hf with ⟨Ho, Hf⟩
  iapply (wp_gat m c (rsl d c j) fullShare.left k Q) $$ [Hs Hin Ho]
  · isplitl [Hs]; · iexact Hs
    isplitl [Hin] <;> iassumption
  iintro ⟨Hs, Hin, Ho⟩
  iapply Hk
  isplitl [Hs]; · iexact Hs
  isplitl [Hin]; · iexact Hin
  iapply Hf; iexact Ho

/-- What holds before hop `i`. -/
def hopInv (c : Dev nD) (i : ℕ) : sProp 𝕄 :=
  iprop(records m K ∗ levAts L lv ∗ ins m c ∗ lands m true c i ∗ lands m false c i ∗ sends true c (cnt true i) ∗ sends false c (cnt false i)
    ∗ outs m true c i ∗ outs m false c i ∗ owesAny c (owed2 c (cnt true i) (cnt false i)))

theorem wp_hop (c : Dev nD) (Q : PUnit → sProp 𝕄) (j : Fin 30) (k : Pg F) :
    hopInv m K c j.val ⊢ iprop((hopInv m K c (j.val + 1) -∗ wpP c k Q) -∗ wpP c (hopOp ops (canon c) j k) Q) := by
  have ht := lands_next m true c j
  have hf := lands_next m false c j
  have e₁ : owed2 c (cnt true j.val) (cnt false j.val) = owedD true c (cnt true j.val) + owedD false c (cnt false j.val) := rfl
  have e₂ : owedD true c (cnt true (j.val + 1)) + owedD false c (cnt false j.val) = owed2 c (cnt true (j.val + 1)) (cnt false j.val) := rfl
  have e₃ : owed2 c (cnt true (j.val + 1)) (cnt false j.val) = owedD false c (cnt false j.val) + owedD true c (cnt true (j.val + 1)) :=
    add_comm _ _
  have e₄ : owedD false c (cnt false (j.val + 1)) + owedD true c (cnt true (j.val + 1)) = owed2 c (cnt true (j.val + 1)) (cnt false (j.val + 1)) :=
    add_comm _ _
  have w₁ := mayWait_owed (F := F) c (some (true, true, j)) (cnt true j.val) (cnt false j.val)
    (by show j.val + 2 < _; have := cnt_gt true j; have := cnt_gt false j; omega)
  have w₂ := mayWait_owed (F := F) c (some (false, true, j)) (cnt true (j.val + 1)) (cnt false j.val)
    (by show j.val + 2 < _; have := cnt_gt true j; have := cnt_gt false j; omega)
  unfold hopOp
  rw [nextCw_eq, nextCcw_eq]
  unfold hopInv
  iintro ⟨#HR, #Hlev, Hin, Ht, Hf, Hst, Hsf, Hot, Hof, HO⟩ Hk
  ihave Ht := ht $$ Ht
  icases Ht with ⟨⟨Hc, Hat⟩, Ht⟩
  iapply (wp_waitRecv m K true c j (ops.src j ((canon c).cw j)) (ops.slot ((canon c).cw j)) rfl
    (owed2 c (cnt true j.val) (cnt false j.val)) w₁ _ Q) $$ [Hc Hat HO]
  · isplitr; · iexact HR
    isplitr; · iexact Hlev
    isplitl [Hc]; · iexact Hc
    isplitl [Hat]; · iexact Hat
    iexact HO
  iintro ⟨Hs, Hzt, HO⟩
  iapply (wp_next m K true c j (owedD false c (cnt false j.val)) _ Q) $$ [Hs Hst HO]
  · isplitr; · iexact HR
    isplitl [Hs]; · iexact Hs
    isplitl [Hst]; · iexact Hst
    iexact HO
  iintro ⟨Hlt, Hrt, Hst, HO⟩
  ihave Hf := hf $$ Hf
  icases Hf with ⟨⟨Hc, Hat⟩, Hf⟩
  iapply (wp_waitRecv m K false c j (ops.src j ((canon c).ccw j)) (ops.slot ((canon c).ccw j)) rfl
    (owed2 c (cnt true (j.val + 1)) (cnt false j.val)) w₂ _ Q) $$ [Hc Hat HO]
  · isplitr; · iexact HR
    isplitr; · iexact Hlev
    isplitl [Hc]; · iexact Hc
    isplitl [Hat]; · iexact Hat
    iexact HO
  iintro ⟨Hs, Hzf, HO⟩
  ihave HO := (Entails.of_eq (congrArg (owesAny (F := F) c) e₃)) $$ HO
  iapply (wp_next m K false c j (owedD true c (cnt true (j.val + 1))) _ Q) $$ [Hs Hsf HO]
  · isplitr; · iexact HR
    isplitl [Hs]; · iexact Hs
    isplitl [Hsf]; · iexact Hsf
    iexact HO
  iintro ⟨Hlf, Hrf, Hsf, HO⟩
  ihave HO := (Entails.of_eq (congrArg (owesAny (F := F) c) e₄)) $$ HO
  iapply (wp_gatD m true c j _ Q) $$ [Hlt Hin Hot]
  · isplitl [Hlt]; · iexact Hlt
    isplitl [Hin] <;> iassumption
  iintro ⟨Hlt, Hin, Hot⟩
  iapply (wp_gatD m false c j _ Q) $$ [Hlf Hin Hof]
  · isplitl [Hlf]; · iexact Hlf
    isplitl [Hin] <;> iassumption
  iintro ⟨Hlf, Hin, Hof⟩
  iapply Hk
  isplitr; · iexact HR
  isplitr; · iexact Hlev
  isplitl [Hin]; · iexact Hin
  isplitl [Ht Hlt Hrt Hzt]
  · iapply Ht
    isplitl [Hlt]; · iexact Hlt
    isplitl [Hrt] <;> iassumption
  isplitl [Hf Hlf Hrf Hzf]
  · iapply Hf
    isplitl [Hlf]; · iexact Hlf
    isplitl [Hrf] <;> iassumption
  isplitl [Hst]; · iexact Hst
  isplitl [Hsf]; · iexact Hsf
  isplitl [Hot]; · iexact Hot
  isplitl [Hof] <;> iassumption

/-! ## The opening sends -/

/-- The own quarters a direction has not yet sent. -/
abbrev unsent (d : Bool) (c : Dev nD) (n : ℕ) : sProp 𝕄 := fam n (fun _ : Fin 4 => iprop(emp)) (fun u => ownPts m c u (sendQ d))

def openInv (c : Dev nD) (i : ℕ) : sProp 𝕄 :=
  iprop(records m K ∗ unsent m true c i ∗ unsent m false c i ∗ sends true c i ∗ sends false c i ∗ owesAny c (owed2 c i i))

/-- One opening send. -/
theorem wp_openD (d : Bool) (c : Dev nD) (u : Fin 4) (O : CellTallies nD τ sig Unit) (k : Pg F) (Q : PUnit → sProp 𝕄) :
    iprop(records m K ∗ unsent m d c u.val ∗ sends d c u.val ∗ owesAny c (owedD d c u.val + O))
      ⊢ iprop((iprop(unsent m d c (u.val + 1) ∗ sends d c (u.val + 1) ∗ owesAny c (owedD d c (u.val + 1) + O)) -∗ wpP c k Q)
          -∗ wpP c (sendD d c ⟨u.val, by omega⟩ k) Q) := by
  have hu := fam_next (fun _ : Fin 4 => (iprop(emp) : sProp 𝕄)) (fun u => ownPts m c u (sendQ d)) u.isLt
  have hp : ownPts (F := F) m c u (sendQ d) ⊢ sendPay m c d ⟨u.val, by omega⟩ := by
    unfold sendPay; rw [dif_pos u.isLt]
  have hs := sends_next (F := F) d c ⟨u.val, by omega⟩ (n := u.val) rfl
  rw [owed_next d c ⟨u.val, by omega⟩ rfl O]
  iintro ⟨#HR, Hu, Hf, HO⟩ Hk
  ihave Hu := hu $$ Hu
  icases Hu with ⟨Ho, Hu⟩
  ihave Hf := hs $$ Hf
  icases Hf with ⟨Ht, Hf⟩
  iapply (wp_sendD m K d c _ (owedD d c (u.val + 1) + O) k Q) $$ [Ho Ht HO]
  · isplitr; · iexact HR
    isplitl [Ho]; · iapply hp; iexact Ho
    isplitl [Ht] <;> iassumption
  iintro ⟨Hc, HO⟩
  iapply Hk
  isplitl [Hu]; · iapply Hu; iempintro
  isplitl [Hf Hc]; · iapply Hf; iexact Hc
  iexact HO

theorem wp_open (c : Dev nD) (Q : PUnit → sProp 𝕄) (u : Fin 4) (k : Pg F) :
    openInv m K c u.val ⊢ iprop((openInv m K c (u.val + 1) -∗ wpP c k Q) -∗ wpP c (openOp ops (canon c) u k) Q) := by
  have e₃ : owedD true c (u.val + 1) + owedD false c u.val = owedD false c u.val + owedD true c (u.val + 1) := add_comm _ _
  have e₄ : owedD false c (u.val + 1) + owedD true c (u.val + 1) = owed2 c (u.val + 1) (u.val + 1) := add_comm _ _
  unfold openOp openInv
  rw [sendCw_eq, sendCcw_eq]
  iintro ⟨#HR, Hut, Huf, Hst, Hsf, HO⟩ Hk
  iapply (wp_openD m K true c u (owedD false c u.val) _ Q) $$ [Hut Hst HO]
  · isplitr; · iexact HR
    isplitl [Hut]; · iexact Hut
    isplitl [Hst]; · iexact Hst
    iexact HO
  iintro ⟨Hut, Hst, HO⟩
  ihave HO := (Entails.of_eq (congrArg (owesAny (F := F) c) e₃)) $$ HO
  iapply (wp_openD m K false c u (owedD true c (u.val + 1)) _ Q) $$ [Huf Hsf HO]
  · isplitr; · iexact HR
    isplitl [Huf]; · iexact Huf
    isplitl [Hsf] <;> iassumption
  iintro ⟨Huf, Hsf, HO⟩
  ihave HO := (Entails.of_eq (congrArg (owesAny (F := F) c) e₄)) $$ HO
  iapply Hk
  isplitr; · iexact HR
  isplitl [Hut]; · iexact Hut
  isplitl [Huf]; · iexact Huf
  isplitl [Hst]; · iexact Hst
  isplitl [Hsf] <;> iassumption

/-! ## The own quarters -/

abbrev ownOuts (c : Dev nD) (n : ℕ) : sProp 𝕄 :=
  fam n (fun u : Fin 4 => outPts c (mine c u) (outAt m c)) (fun u => iprop(∃ f, outPts (F := F) c (mine c u) f))

def ownInv (c : Dev nD) (i : ℕ) : sProp 𝕄 :=
  iprop((((c : Thread nD τ).loc cc0_stg0_0) ↦{keepQ} xstg m c) ∗ ins m c ∗ ownOuts m c i)

theorem wp_ownStep (c : Dev nD) (Q : PUnit → sProp 𝕄) (u : Fin 4) (k : Pg F) :
    ownInv m c u.val ⊢ iprop((ownInv m c (u.val + 1) -∗ wpP c k Q) -∗ wpP c (ownOp ops u ((canon c).ownOut u) k) Q) := by
  have ho := fam_next (fun u : Fin 4 => outPts c (mine c u) (outAt m c)) (fun u => iprop(∃ f, outPts (F := F) c (mine c u) f)) u.isLt
  unfold ownInv
  iintro ⟨Hx, Hin, Hf⟩ Hk
  ihave Hf := ho $$ Hf
  icases Hf with ⟨Ho, Hf⟩
  iapply (wp_own m c u k Q) $$ [Hx Hin Ho]
  · isplitl [Hx]; · iexact Hx
    isplitl [Hin] <;> iassumption
  iintro ⟨Hx, Hin, Ho⟩
  iapply Hk
  isplitl [Hx]; · iexact Hx
  isplitl [Hin]; · iexact Hin
  iapply Hf; iexact Ho

/-! ## The waits for the sends -/

/-- A send still to be waited for; and waited for. -/
def toClose (d : Bool) (c : Dev nD) (j : Fin 30) : sProp 𝕄 := iprop(sent d c j ∗ atPos ER (xferCell c d false j) 0 ∅ 0)
def closed (d : Bool) (c : Dev nD) (j : Fin 30) : sProp 𝕄 := iprop(sendPay m c d j ∗ semVal (xferCell c d false j) 0)

def closeInv (d : Bool) (c : Dev nD) (i : ℕ) : sProp 𝕄 :=
  iprop(records m K ∗ levAts L lv ∗ fam i (closed m d c) (toClose d c) ∗ owesAny c 0)

/-- The wait for hop `j`'s send. -/
def closeD (d : Bool) (c : Dev nD) (j : Fin 30) (k : Pg F) : Pg F :=
  waitOp (semD d false j) (ops.slot (slotOff (ssl d c j))) (ops.src j (slotOff (ssl d c j))) k

theorem closeCw_eq (c : Dev nD) : closeCw (F := F) ops (canon c) = closeD true c := rfl
theorem closeCcw_eq (c : Dev nD) : closeCcw (F := F) ops (canon c) = closeD false c := rfl

theorem wp_closeD (d : Bool) (c : Dev nD) (Q : PUnit → sProp 𝕄) (j : Fin 30) (k : Pg F) :
    closeInv m K d c j.val ⊢ iprop((closeInv m K d c (j.val + 1) -∗ wpP c k Q) -∗ wpP c (closeD d c j k) Q) := by
  have hc : fam j.val (closed m d c) (toClose d c)
      ⊢ iprop((cred (tallyAt (xferCell c d false j) () N) ∗ atPos ER (xferCell c d false j) 0 ∅ 0)
        ∗ (iprop(sendPay m c d j ∗ semVal (xferCell c d false j) 0) -∗ fam (j.val + 1) (closed m d c) (toClose d c))) :=
    fam_next (closed m d c) (toClose d c) j.isLt
  have w : (levAts L lv : sProp 𝕄) ⊢ MayWait (c : Thread nD τ) (csem (some (d, false, j))) () 0 := by
    rw [MayWait_zero]; iintro -; iempintro
  unfold closeInv closeD
  iintro ⟨#HR, #Hlev, Hf, HO⟩ Hk
  ihave Hf := hc $$ Hf
  icases Hf with ⟨⟨Hc, Hat⟩, Hf⟩
  iapply (wp_waitSend m K d c j (ops.slot (slotOff (ssl d c j))) (ops.src j (slotOff (ssl d c j))) (src_credit _ _) 0 w k Q) $$ [Hc Hat HO]
  · isplitr; · iexact HR
    isplitr; · iexact Hlev
    isplitl [Hc]; · iexact Hc
    isplitl [Hat] <;> iassumption
  iintro ⟨Hp, Hz, HO⟩
  iapply Hk
  isplitr; · iexact HR
  isplitr; · iexact Hlev
  isplitl [Hf Hp Hz]
  · iapply Hf
    isplitl [Hp]; · iexact Hp
    iexact Hz
  iexact HO

end Cert.KernelIdeal.Ring
-- ==== Proof.KernelIdeal.Deal.lean ====
/-
  What is dealt out at the start of the body and gathered at its end: the own rows in three shares, the slots handed
  to the neighbours, and at the end every piece put back together.
-/
module

public import proofs.«01_k».proof.Proof.KernelIdeal.Hops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores one family at a time -/

omit [FloatOps F] in
theorem sep_regroup (A B C D E : sProp 𝕄) : (iprop(((A ∗ B) ∗ (C ∗ D)) ∗ E) : sProp 𝕄) = iprop(E ∗ A ∗ B ∗ C ∗ D) := by
  refine BI.Entails.antisymm (show _ ⊢ (_ : sProp 𝕄) from ?_) (show _ ⊢ (_ : sProp 𝕄) from ?_)
  · iintro ⟨⟨⟨H₁, H₂⟩, H₃, H₄⟩, H₀⟩
    isplitl [H₀]; · iexact H₀
    isplitl [H₁]; · iexact H₁
    isplitl [H₂]; · iexact H₂
    isplitl [H₃]; · iexact H₃
    iexact H₄
  · iintro ⟨H₀, H₁, H₂, H₃, H₄⟩
    isplitr [H₀]
    · isplitl [H₁ H₂]
      · isplitl [H₁]; · iexact H₁
        iexact H₂
      · isplitl [H₃]; · iexact H₃
        iexact H₄
    · iexact H₀

omit [FloatOps F] in
theorem bigSep_bool (Ψ : Bool → sProp 𝕄) : bigSep Finset.univ Ψ = iprop(Ψ true ∗ Ψ false) := by
  rw [bigSep_univ_eq_bigSepL [true, false] (by decide) (by decide), bigSepL_cons_cons, bigSepL_singleton]; rfl

omit [FloatOps F] in
theorem bigSep_ends (Φ : Bool × Fin 30 → sProp 𝕄) : bigSep Finset.univ Φ
    = iprop((bigSep Finset.univ fun j => Φ (true, j)) ∗ bigSep Finset.univ fun j => Φ (false, j)) := by
  rw [bigSep_univ_prod]; exact bigSep_bool fun r => bigSep Finset.univ fun j => Φ (r, j)

omit [FloatOps F] in
/-- Over the transfers: by direction, then by end. -/
theorem bigSep_xfers (Φ : Bool × Bool × Fin 30 → sProp 𝕄) : bigSep Finset.univ Φ
    = iprop(((bigSep Finset.univ fun j => Φ (true, true, j)) ∗ (bigSep Finset.univ fun j => Φ (true, false, j)))
      ∗ ((bigSep Finset.univ fun j => Φ (false, true, j)) ∗ bigSep Finset.univ fun j => Φ (false, false, j))) := by
  rw [bigSep_univ_prod]
  refine (bigSep_bool fun d => bigSep Finset.univ fun p => Φ (d, p)).trans ?_
  rw [bigSep_ends fun p => Φ (true, p), bigSep_ends fun p => Φ (false, p)]

omit [FloatOps F] in
/-- Over a device's semaphores: the transfers, then the barrier. -/
theorem bigSep_option (Φ : CI → sProp 𝕄) : bigSep Finset.univ Φ
    = iprop((bigSep Finset.univ fun p : Bool × Bool × Fin 30 => Φ (some p)) ∗ Φ none) := by
  rw [bigSep_univ_equiv (Equiv.optionEquivSumPUnit.{0} (Bool × Bool × Fin 30)).symm, bigSep_univ_sum,
    bigSep_univ_of_subsingleton PUnit.unit]
  rfl

omit [FloatOps F] in
/-- Over a device's semaphores: the barrier, then the transfers by direction and end. -/
theorem bigSep_CI (Φ : CI → sProp 𝕄) : bigSep Finset.univ Φ
    = iprop(Φ none ∗ (bigSep Finset.univ fun j => Φ (some (true, true, j))) ∗ (bigSep Finset.univ fun j => Φ (some (true, false, j)))
      ∗ (bigSep Finset.univ fun j => Φ (some (false, true, j))) ∗ bigSep Finset.univ fun j => Φ (some (false, false, j))) :=
  ((bigSep_option Φ).trans (congrArg (fun X : sProp 𝕄 => iprop(X ∗ Φ none)) (bigSep_xfers fun p => Φ (some p)))).trans (sep_regroup _ _ _ _ _)

/-! ## The own rows -/

omit [FloatOps F] in
/-- The own rows whole are the share kept and the quarters at the two shares sent from. -/
theorem own_deal (c : Dev nD) :
    (((c : Thread nD τ).loc cc0_stg0_0) ↦{fullShare} xstg m c : sProp 𝕄)
      ⊢ iprop((((c : Thread nD τ).loc cc0_stg0_0) ↦{keepQ} xstg m c)
        ∗ (bigSep Finset.univ fun u => ownPts m c u (sendQ true)) ∗ bigSep Finset.univ fun u => ownPts m c u (sendQ false)) := by
  rw [← own_split, ← own_split]
  iintro H
  ihave H := (pointsTo_share (PosShare.mem_left_op_right fullShare)).1 $$ H
  icases H with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  iexact Hrr

omit [FloatOps F] in
theorem own_gather (c : Dev nD) :
    iprop((((c : Thread nD τ).loc cc0_stg0_0) ↦{keepQ} xstg m c)
        ∗ (bigSep Finset.univ fun u => ownPts m c u (sendQ true)) ∗ bigSep Finset.univ fun u => ownPts m c u (sendQ false))
      ⊢ (((c : Thread nD τ).loc cc0_stg0_0) ↦{fullShare} xstg m c : sProp 𝕄) := by
  rw [← own_split, ← own_split]
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The slots handed over -/

omit [FloatOps F] in
theorem nb_back (d : Bool) (c : Dev nD) : nb (!d) (nb d c) = c := by rw [nb_not, pb_nb]

omit [FloatOps F] in
theorem slot_any (c : Dev nD) (s : Fin 64) (f : Buf (Elt F) ((c : Thread nD τ).loc cc0_scratch0)) :
    slotPts (F := F) c s fullShare f ⊢ iprop(∃ f, slotPts c s fullShare f) := by
  iintro H; iexists f; iexact H
omit [FloatOps F] in
theorem out_any (c : Dev nD) (s : Fin 64) (f : Buf (Elt F) ((c : Thread nD τ).loc cc0_stg4_0)) :
    outPts (F := F) c s f ⊢ iprop(∃ f, outPts c s f) := by
  iintro H; iexists f; iexact H

omit [FloatOps F] in
/-- What a device hands the neighbour in direction `d`: its slots that neighbour fills. -/
theorem hand (d : Bool) (c : Dev nD) (f : Buf (Elt F) ((c : Thread nD τ).loc cc0_scratch0)) :
    (bigSep Finset.univ fun j => slotPts (F := F) c (rsl (!d) c j) fullShare f) ⊢ barPay (nb d c) (!d) := by
  unfold barPay ssl
  rw [nb_back]
  exact bigSep_mono fun j _ => slot_any c _ f

omit [FloatOps F] in
/-- The tickets of a direction's sends. -/
theorem tickets (d : Bool) (c : Dev nD) :
    iprop((bigSep Finset.univ fun j : Fin 30 => dutyTok ER (xferCell c d false j) 0 false)
        ∗ (bigSep Finset.univ fun j : Fin 30 => dutyTok ER (xferCell (nb d c) d true j) 0 false) ∗ barPay (F := F) c d)
      ⊢ (sends d c 0 : sProp 𝕄) := by
  unfold sends
  rw [fam_zero]
  unfold ticket barPay
  rw [bigSep_sep', bigSep_sep']

/-! ## What the sends give back -/

/-- The hop that filled the slot hop `j` sends on. -/
def prv (d : Bool) (j : Fin 30) : Fin 30 :=
  ⟨(if d || decide (j.val < 28) then j.val - 4 else j.val - 2), by have := j.isLt; split <;> omega⟩
/-- What hop `j` sends: an own quarter, or what an earlier hop brought. -/
def origin (d : Bool) (j : Fin 30) : Fin 4 ⊕ Fin 30 := if h : j.val < 4 then .inl ⟨j.val, h⟩ else .inr (prv d j)

theorem nxt_prv : ∀ (d : Bool) (j : Fin 30), 4 ≤ j.val → nxt d (prv d j) = some j := by decide +kernel
theorem origin_injective : ∀ d, Function.Injective (origin d) := by decide +kernel

/-- Whether something is sent on. -/
def isSent (d : Bool) : Fin 4 ⊕ Fin 30 → Bool
  | .inl _ => true
  | .inr i => (nxt d i).isSome
theorem origin_range : ∀ d, Finset.univ.map ⟨origin d, origin_injective d⟩ = Finset.univ.filter fun x => isSent d x = true := by decide +kernel

/-- The half of a landed slot that was sent on. -/
def lent (d : Bool) (c : Dev nD) (j : Fin 30) : sProp 𝕄 :=
  if (nxt d j).isSome then slotPts c (rsl d c j) fullShare.right (gat m) else iprop(emp)

omit [FloatOps F] in
/-- The sends of a direction give back the own quarters' share and the halves sent on. -/
theorem sendPays (d : Bool) (c : Dev nD) :
    (bigSep Finset.univ fun j => sendPay (F := F) m c d j)
      = iprop((bigSep Finset.univ fun u => ownPts m c u (sendQ d)) ∗ bigSep Finset.univ fun j => lent m d c j) := by
  let Ψ : Fin 4 ⊕ Fin 30 → sProp 𝕄 := fun
    | .inl u => ownPts m c u (sendQ d)
    | .inr i => slotPts c (rsl d c i) fullShare.right (gat m)
  have h₁ : (bigSep Finset.univ fun j => sendPay (F := F) m c d j) = bigSep (Finset.univ.map ⟨origin d, origin_injective d⟩) Ψ := by
    rw [bigSep_map]
    refine bigSep_congr fun j _ => ?_
    show sendPay m c d j = Ψ (origin d j)
    unfold sendPay origin
    by_cases h : j.val < 4
    · rw [dif_pos h, dif_pos h]
    · rw [dif_neg h, dif_neg h, nxt_slot d c (prv d j) j (nxt_prv d j (by omega))]
  rw [h₁, origin_range, bigSep_filter, bigSep_univ_sum]
  rfl

omit [FloatOps F] in
/-- A landed slot's parts together. -/
theorem slot_whole (d : Bool) (c : Dev nD) (j : Fin 30) :
    iprop(slotPts c (rsl d c j) fullShare.left (gat m) ∗ spare m d c j ∗ lent m d c j) ⊢ (iprop(∃ f, slotPts (F := F) c (rsl d c j) fullShare f) : sProp 𝕄) := by
  have hj : iprop(slotPts (F := F) c (rsl d c j) fullShare.left (gat m) ∗ slotPts c (rsl d c j) fullShare.right (gat m))
      ⊢ slotPts c (rsl d c j) fullShare (gat m) := by
    unfold slotPts; exact (pointsTo_share (PosShare.mem_left_op_right fullShare)).2
  unfold spare lent
  by_cases h : (nxt d j).isSome = true
  · rw [if_pos h, if_pos h]
    iintro ⟨Hl, -, Hr⟩
    iexists gat m
    iapply hj
    isplitl [Hl] <;> iassumption
  · rw [if_neg h, if_neg h]
    iintro ⟨Hl, Hr, -⟩
    iexists gat m
    iapply hj
    isplitl [Hl] <;> iassumption

omit [FloatOps F] in
/-- A direction's slots, once every hop is past and every send waited for. -/
theorem slots_whole (d : Bool) (c : Dev nD) :
    iprop(lands m d c 30 ∗ bigSep Finset.univ fun j => lent (F := F) m d c j)
      ⊢ iprop((bigSep Finset.univ fun j => iprop(∃ f, slotPts (F := F) c (rsl d c j) fullShare f))
        ∗ bigSep Finset.univ fun j => semVal (xferCell c d true j) 0) := by
  have e : (bigSep Finset.univ fun j => landedAt (F := F) m d c j)
      = iprop((bigSep Finset.univ fun j => slotPts c (rsl d c j) fullShare.left (gat m)) ∗ (bigSep Finset.univ fun j => spare m d c j)
        ∗ bigSep Finset.univ fun j => semVal (xferCell c d true j) 0) := by
    unfold landedAt; rw [bigSep_sep', bigSep_sep']
  have h : iprop((bigSep Finset.univ fun j => slotPts c (rsl d c j) fullShare.left (gat m)) ∗ (bigSep Finset.univ fun j => spare m d c j)
        ∗ bigSep Finset.univ fun j => lent (F := F) m d c j)
      ⊢ bigSep Finset.univ fun j => iprop(∃ f, slotPts (F := F) c (rsl d c j) fullShare f) := by
    rw [← bigSep_sep', ← bigSep_sep']
    exact bigSep_mono fun j _ => slot_whole m d c j
  unfold lands
  rw [fam_full, e]
  iintro ⟨⟨Hl, Hs, Hz⟩, Hb⟩
  isplitr [Hz]
  · iapply h
    isplitl [Hl]; · iexact Hl
    isplitl [Hs] <;> iassumption
  · iexact Hz

end Cert.KernelIdeal.Ring
-- ==== Proof.KernelIdeal.Phases.lean ====
/-
  The body's phases: the meeting at the barriers, and the five loops, from what is dealt out to what is gathered.
-/
module

public import proofs.«01_k».proof.Proof.KernelIdeal.Deal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The meeting -/

omit [FloatOps F] in
theorem bar_mem (c : Dev nD) (b : Bool) : b ∈ (Rd (F := F) m).duties (barCell c) 0 := by
  rw [duties_cell]; exact Finset.mem_univ b
omit [FloatOps F] in
theorem bar_amount (c : Dev nD) (b : Bool) : (Rd (F := F) m).amount (barCell c) 0 b = 1 := amount_cell m c none b

/-- A unit at the neighbour's barrier, and with it the slots that neighbour fills. -/
theorem wp_greet (d : Bool) (c : Dev nD) (O : CellTallies nD τ sig Unit) (f : Buf (Elt F) ((c : Thread nD τ).loc cc0_scratch0))
    (k : PUnit → Pg F) (Q : PUnit → sProp 𝕄) :
    iprop(records m K ∗ dutyTok ER (barCell (nb d c)) 0 (!d) ∗ (bigSep Finset.univ fun j => slotPts (F := F) c (rsl (!d) c j) fullShare f)
        ∗ owesAny c (O + tallyAt (barCell (nb d c)) () 1))
      ⊢ iprop((owesAny c O -∗ wpP c (k ⟨⟩) Q) -∗ wpP c (.op (.semSignal ((nb d c), .tc) barSem (1#32).toInt) k) Q) := by
  have hp : (bigSep Finset.univ fun j => slotPts (F := F) c (rsl (!d) c j) fullShare f)
      ⊢ (Rd (F := F) m).payload ((nb d c : Thread nD τ), SemLoc.reg barSem) 0 (!d) :=
    (hand d c f).trans (Entails.of_eq (payload_cell m (nb d c) none (!d)).symm)
  unfold owesAny
  iintro ⟨#HR, Ht, Hs, ⟨%W, HO⟩⟩ Hk
  ihave H := (records_at m K (nb d c) none) $$ HR
  icases H with ⟨#HI, #Hr⟩
  iapply (Rounds.wp_signal 𝒱₀ ER (Rd m) (c : Thread nD τ) none (dst := (nb d c : Thread nD τ)) (κ := K (nb d c, none))
      (d := !d) (bar_mem m (nb d c) (!d)) ((bar_amount m (nb d c) (!d)).trans (by decide)) () O rfl) $$ [HO Ht Hs]
  · isplitr; · iexact HI
    isplitl [HO]; · iexact HO
    isplitl [Ht]; · iexact Ht
    isplitl [Hs]; · iapply hp; iexact Hs
    iexact Hr
  iintro HO
  iapply Hk
  iexists W; iexact HO

/-- The wait for both neighbours: the slots it fills on each. -/
theorem wp_meet (c : Dev nD) (k : PUnit → Pg F) (Q : PUnit → sProp 𝕄) :
    iprop(records m K ∗ levAts L lv ∗ cred (tallyAt (barCell c) () 2) ∗ atPos ER (barCell c) 0 ∅ 0 ∗ owesAny c (owed2 c 0 0))
      ⊢ iprop((iprop(barPay c true ∗ barPay c false ∗ semVal (barCell c) 0 ∗ owesAny c (owed2 c 0 0)) -∗ wpP c (k ⟨⟩) Q)
          -∗ wpP c (.op (.semWait barSem (2#32).toInt) k) Q) := by
  have w := mayWait_owed (F := F) c none 0 0 (by decide)
  unfold owesAny
  iintro ⟨#HR, #Hlev, Hc, Hat, ⟨%W, HO⟩⟩ Hk
  ihave H := (records_at m K c none) $$ HR
  icases H with ⟨#HI, -⟩
  iapply (Rounds.wp_wait_rest_token 𝒱₀ ER (Rd m) (c : Thread nD τ) none (κ := K (c, none)) (sm := csem none)
      (wpE_semWait_eq 𝒱₀ (c : Thread nD τ) none Set.univ) (Set.mem_univ _) () (O := owed2 c 0 0) (W := W) (R := 0) (m := 0) (T := ∅)
      (by rw [expect_bar]; decide)) $$ [Hc HO Hat]
  · isplitr; · iexact HI
    isplitl [Hc]; · iexact Hc
    isplitl [HO]; · iexact HO
    isplitr; · iapply w; iexact Hlev
    iexact Hat
  iintro ⟨HO, Hat, -, Hpay⟩
  ihave Hp := (Entails.of_eq (rest_bar m c)) $$ Hpay
  icases Hp with ⟨Hp₁, Hp₂⟩
  imod (Rounds.cell_close ER (Rd m) (Set.mem_univ (K (c, none))) (fun h => h) (R := 0 + 1) (duties_later m (barCell c))) $$ [Hat] with Hz
  · isplitr; · iexact HI
    iexact Hat
  iapply Hk
  isplitl [Hp₁]; · iexact Hp₁
  isplitl [Hp₂]; · iexact Hp₂
  isplitl [Hz]; · iexact Hz
  iexists _; iexact HO

/-! ## The loops -/

theorem wp_opens (c : Dev nD) (k : Pg F) (Q : PUnit → sProp 𝕄) :
    openInv m K c 0 ⊢ iprop((openInv m K c 4 -∗ wpP c k Q) -∗ wpP c (loop (openOp ops (canon c)) 4 le_rfl k) Q) :=
  wp_loop c (openOp ops (canon c)) Q (openInv m K c) (fun i k => wp_open m K c Q i k) 4 le_rfl k
theorem wp_owns (c : Dev nD) (k : Pg F) (Q : PUnit → sProp 𝕄) :
    ownInv m c 0 ⊢ iprop((ownInv m c 4 -∗ wpP c k Q) -∗ wpP c (loop (fun u k => ownOp ops u ((canon c).ownOut u) k) 4 le_rfl k) Q) :=
  wp_loop c (fun u k => ownOp ops u ((canon c).ownOut u) k) Q (ownInv m c) (fun i k => wp_ownStep m c Q i k) 4 le_rfl k
theorem wp_hops (c : Dev nD) (k : Pg F) (Q : PUnit → sProp 𝕄) :
    hopInv m K c 0 ⊢ iprop((hopInv m K c 30 -∗ wpP c k Q) -∗ wpP c (loop (hopOp ops (canon c)) 30 le_rfl k) Q) :=
  wp_loop c (hopOp ops (canon c)) Q (hopInv m K c) (fun i k => wp_hop m K c Q i k) 30 le_rfl k
theorem wp_closes (d : Bool) (c : Dev nD) (k : Pg F) (Q : PUnit → sProp 𝕄) :
    closeInv m K d c 0 ⊢ iprop((closeInv m K d c 30 -∗ wpP c k Q) -∗ wpP c (loop (closeD d c) 30 le_rfl k) Q) :=
  wp_loop c (closeD d c) Q (closeInv m K d c) (fun i k => wp_closeD m K d c Q i k) 30 le_rfl k

omit [FloatOps F] in
/-- Both directions' sends made: what their waits close. -/
theorem toClose_all (d : Bool) (c : Dev nD) :
    iprop(sends (F := F) d c 30 ∗ bigSep Finset.univ fun j : Fin 30 => atPos ER (xferCell c d false j) 0 ∅ 0)
      ⊢ fam 0 (closed m d c) (toClose d c) := by
  rw [fam_zero]
  unfold sends toClose
  rw [fam_full, bigSep_sep']

omit [FloatOps F] in
/-- All sends waited for: the pieces sent from, and the semaphores at zero. -/
theorem closed_all (d : Bool) (c : Dev nD) :
    fam 30 (closed (F := F) m d c) (toClose d c)
      ⊢ iprop((bigSep Finset.univ fun u => ownPts m c u (sendQ d)) ∗ (bigSep Finset.univ fun j => lent m d c j)
        ∗ bigSep Finset.univ fun j => semVal (xferCell c d false j) 0) := by
  rw [fam_full]
  unfold closed
  rw [bigSep_sep', sendPays]
  iintro ⟨⟨H₁, H₂⟩, H₃⟩
  isplitl [H₁]; · iexact H₁
  isplitl [H₂] <;> iassumption

omit [FloatOps F] in
/-- The landings to come, from their credits and their places. -/
theorem awaits_all (d : Bool) (c : Dev nD) :
    iprop((bigSep Finset.univ fun j : Fin 30 => cred (tallyAt (xferCell c d true j) () N))
        ∗ bigSep Finset.univ fun j : Fin 30 => atPos ER (xferCell c d true j) 0 ∅ 0)
      ⊢ lands (F := F) m d c 0 := by
  unfold lands
  rw [fam_zero]
  unfold awaits
  rw [bigSep_sep']

omit [FloatOps F] in
theorem unsent_done (d : Bool) (c : Dev nD) : unsent (F := F) m d c 4 ⊢ (iprop(emp) : sProp 𝕄) := by
  unfold unsent
  rw [fam_full]
  exact Entails.of_eq (bigSep_emp_const _)

omit [FloatOps F] in
/-- The result's rows to be written, own ones and the directions'. -/
theorem outs_all (c : Dev nD) (f : Buf (Elt F) ((c : Thread nD τ).loc cc0_stg4_0)) :
    (((c : Thread nD τ).loc cc0_stg4_0) ↦{fullShare} f : sProp 𝕄)
      ⊢ iprop((bigSep Finset.univ fun u => iprop(∃ f, outPts (F := F) c (mine c u) f))
        ∗ (bigSep Finset.univ fun j => iprop(∃ f, outPts (F := F) c (rsl true c j) f))
        ∗ bigSep Finset.univ fun j => iprop(∃ f, outPts (F := F) c (rsl false c j) f)) := by
  rw [out_split]
  exact sep_mono (bigSep_mono fun u _ => out_any c _ f) (sep_mono (bigSep_mono fun j _ => out_any c _ f) (bigSep_mono fun j _ => out_any c _ f))

theorem outs_done (c : Dev nD) :
    iprop(ownOuts m c 4 ∗ outs m true c 30 ∗ outs m false c 30) ⊢ (((c : Thread nD τ).loc cc0_stg4_0) ↦{fullShare} outAt m c : sProp 𝕄) := by
  unfold ownOuts outs
  rw [out_split, fam_full, fam_full, fam_full]

end Cert.KernelIdeal.Ring
-- ==== Proof.KernelIdeal.Body.lean ====
/-
  The body run from what the launch deals a device to what it gives back.
-/
module

public import proofs.«01_k».proof.Proof.KernelIdeal.Phases

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A device's duties in a direction: its sends', the landings' at the neighbour, and the unit at the neighbour's barrier. -/
def duties (d : Bool) (c : Dev nD) : sProp 𝕄 :=
  iprop((bigSep Finset.univ fun j : Fin 30 => dutyTok ER (xferCell c d false j) 0 false)
    ∗ (bigSep Finset.univ fun j : Fin 30 => dutyTok ER (xferCell (nb d c) d true j) 0 false) ∗ dutyTok ER (barCell (nb d c)) 0 (!d))
/-- Its places at its own semaphores. -/
def places (c : Dev nD) : sProp 𝕄 := bigSep Finset.univ fun k : CI => atPos ER (cell c k) 0 ∅ 0
/-- The credit of what it waits for. -/
def credits (c : Dev nD) : sProp 𝕄 :=
  iprop(cred (tallyAt (barCell c) () 2) ∗ (bigSep Finset.univ fun j : Fin 30 => cred (tallyAt (xferCell c true true j) () N))
    ∗ bigSep Finset.univ fun j : Fin 30 => cred (tallyAt (xferCell c false true j) () N))

def ghost (c : Dev nD) : sProp 𝕄 := iprop(records m K ∗ places c ∗ duties true c ∗ duties false c)
/-- What a device's body starts from. -/
def start (c : Dev nD) : sProp 𝕄 := iprop((∃ K, ghost m K c) ∗ credits c ∗ levAts L lv)
/-- The gathered array at any contents. -/
def scratch (c : Dev nD) : sProp 𝕄 :=
  iprop(∃ f : Buf (Elt F) ((c : Thread nD τ).loc cc0_scratch0), ((c : Thread nD τ).loc cc0_scratch0) ↦{fullShare} f)
def Φ₀ (c : Dev nD) : sProp 𝕄 := iprop(start m c ∗ scratch c)
/-- After the body: the gathered array, and every semaphore at zero. -/
def Φ₁ (c : Dev nD) : sProp 𝕄 := iprop(scratch (F := F) c ∗ bigSep Finset.univ fun k : CI => semVal (cell c k) 0)

/-- The own rows and the result, as staged. -/
abbrev xPts (c : Dev nD) : sProp 𝕄 := ((c : Thread nD τ).loc cc0_stg0_0) ↦{fullShare} xstg m c
abbrev oPts (c : Dev nD) (f : Buf (Elt F) ((c : Thread nD τ).loc cc0_stg4_0)) : sProp 𝕄 := ((c : Thread nD τ).loc cc0_stg4_0) ↦{fullShare} f

/-! ## The pieces gathered at the end -/

omit [FloatOps F] in
theorem scratch_back (c : Dev nD) (f : Buf (Elt F) ((c : Thread nD τ).loc cc0_scratch0)) :
    iprop((bigSep Finset.univ fun u => slotPts (F := F) c (mine c u) fullShare f)
        ∗ (bigSep Finset.univ fun j => iprop(∃ f, slotPts (F := F) c (rsl true c j) fullShare f))
        ∗ bigSep Finset.univ fun j => iprop(∃ f, slotPts (F := F) c (rsl false c j) fullShare f))
      ⊢ scratch (F := F) c := by
  have h : (bigSep Finset.univ fun u => slotPts (F := F) c (mine c u) fullShare f)
      ⊢ bigSep Finset.univ fun u => iprop(∃ f, slotPts (F := F) c (mine c u) fullShare f) := bigSep_mono fun u _ => slot_any c _ f
  unfold scratch
  iintro ⟨H₁, H₂, H₃⟩
  iapply (slots_join c f)
  isplitl [H₁]; · iapply h; iexact H₁
  isplitl [H₂] <;> iassumption

/-! ## The loops together -/

/-- What the loops start from, the slots on the neighbours in hand. -/
def loopPre (c : Dev nD) (f : Buf (Elt F) ((c : Thread nD τ).loc cc0_stg4_0)) : sProp 𝕄 :=
  iprop(records m K ∗ levAts L lv ∗ xPts m c ∗ ins m c ∗ oPts c f ∗ sends true c 0 ∗ sends false c 0
    ∗ lands m true c 0 ∗ lands m false c 0
    ∗ (bigSep Finset.univ fun j : Fin 30 => atPos ER (xferCell c true false j) 0 ∅ 0)
    ∗ (bigSep Finset.univ fun j : Fin 30 => atPos ER (xferCell c false false j) 0 ∅ 0) ∗ owesAny c (owed2 c 0 0))

/-- What they leave. -/
def loopPost (c : Dev nD) : sProp 𝕄 :=
  iprop(xPts m c ∗ ins m c ∗ oPts c (outAt m c)
    ∗ (bigSep Finset.univ fun j => iprop(∃ f, slotPts (F := F) c (rsl true c j) fullShare f))
    ∗ (bigSep Finset.univ fun j => iprop(∃ f, slotPts (F := F) c (rsl false c j) fullShare f))
    ∗ (bigSep Finset.univ fun j => semVal (xferCell c true true j) 0) ∗ (bigSep Finset.univ fun j => semVal (xferCell c true false j) 0)
    ∗ (bigSep Finset.univ fun j => semVal (xferCell c false true j) 0) ∗ (bigSep Finset.univ fun j => semVal (xferCell c false false j) 0)
    ∗ owesAny c 0)

/-- The program from the first loop on. -/
def loops (V : Views) : Pg F :=
  loop (openOp ops V) 4 le_rfl <| loop (fun u k => ownOp ops u (V.ownOut u) k) 4 le_rfl <| loop (hopOp ops V) 30 le_rfl <|
  loop (closeCw ops V) 30 le_rfl <| loop (closeCcw ops V) 30 le_rfl <| .ret ⟨⟩

theorem bodyAt_eq (V : Views) : bodyAt (F := F) ops V =
    .op (.semSignal (V.left, .tc) barSem (1#32).toInt) fun _ => .op (.semSignal (V.right, .tc) barSem (1#32).toInt) fun _ =>
      .op (.semWait barSem (2#32).toInt) fun _ => loops V := rfl

theorem wp_end (c : Dev nD) (Q : PUnit → sProp 𝕄) : Q ⟨⟩ ⊢ wpP (F := F) c (.ret ⟨⟩) Q := by
  unfold wpP
  rw [wp_ret]
  iintro H
  imodintro
  iexact H

theorem wp_loops (c : Dev nD) (f : Buf (Elt F) ((c : Thread nD τ).loc cc0_stg4_0)) (Q : PUnit → sProp 𝕄) :
    loopPre m K c f ⊢ iprop((loopPost m c -∗ Q ⟨⟩) -∗ wpP c (loops (canon c)) Q) := by
  have e₄ : hopInv m K c 0 = iprop(records m K ∗ levAts L lv ∗ ins m c ∗ lands m true c 0 ∗ lands m false c 0 ∗ sends true c 4 ∗ sends false c 4
    ∗ outs m true c 0 ∗ outs m false c 0 ∗ owesAny c (owed2 c 4 4)) := rfl
  have e₃₀ : hopInv m K c 30 = iprop(records m K ∗ levAts L lv ∗ ins m c ∗ lands m true c 30 ∗ lands m false c 30 ∗ sends true c 30 ∗ sends false c 30
    ∗ outs m true c 30 ∗ outs m false c 30 ∗ owesAny c (owed2 c 30 30)) := rfl
  have h₀ := wp_opens m K c (loop (fun u k => ownOp ops u ((canon c).ownOut u) k) 4 le_rfl <| loop (hopOp ops (canon c)) 30 le_rfl <|
    loop (closeCw ops (canon c)) 30 le_rfl <| loop (closeCcw ops (canon c)) 30 le_rfl <| .ret ⟨⟩) Q
  have h₁ := wp_owns m c (loop (hopOp ops (canon c)) 30 le_rfl <|
    loop (closeCw ops (canon c)) 30 le_rfl <| loop (closeCcw ops (canon c)) 30 le_rfl <| .ret ⟨⟩) Q
  have h₂ := wp_hops m K c (loop (closeCw ops (canon c)) 30 le_rfl <| loop (closeCcw ops (canon c)) 30 le_rfl <| .ret ⟨⟩) Q
  have h₃ := wp_closes m K true c (loop (closeCcw ops (canon c)) 30 le_rfl <| .ret ⟨⟩) Q
  have h₄ := wp_closes m K false c (.ret ⟨⟩) Q
  rw [← closeCw_eq] at h₃
  rw [← closeCcw_eq] at h₄
  rw [e₄, e₃₀] at h₂
  unfold openInv at h₀
  unfold ownInv at h₁
  unfold closeInv at h₃ h₄
  have eu (d : Bool) : unsent (F := F) m d c 0 = bigSep Finset.univ fun u => ownPts m c u (sendQ d) := fam_zero _ _
  have eo : ownOuts m c 0 = bigSep Finset.univ fun u => iprop(∃ f, outPts (F := F) c (mine c u) f) := fam_zero _ _
  have ed (d : Bool) : outs m d c 0 = bigSep Finset.univ fun j => iprop(∃ f, outPts (F := F) c (rsl d c j) f) := fam_zero _ _
  have eowe : owed2 c 30 30 = 0 := owed2_done c le_rfl le_rfl
  rw [eu, eu] at h₀
  rw [eo] at h₁
  rw [ed, ed, eowe] at h₂
  unfold loopPre loops
  iintro ⟨#HR, #Hlev, Hx, Hin, Hout, Hst, Hsf, Hlt, Hlf, Hpt, Hpf, HO⟩ Hk
  ihave Hx := (own_deal m c) $$ Hx
  icases Hx with ⟨Hx, Hqt, Hqf⟩
  ihave Hout := (outs_all c f) $$ Hout
  icases Hout with ⟨Hoo, Hot, Hof⟩
  iapply h₀ $$ [Hqt Hqf Hst Hsf HO]
  · isplitr; · iexact HR
    isplitl [Hqt]; · iexact Hqt
    isplitl [Hqf]; · iexact Hqf
    isplitl [Hst]; · iexact Hst
    isplitl [Hsf]; · iexact Hsf
    iexact HO
  iintro ⟨-, Hqt, Hqf, Hst, Hsf, HO⟩
  ihave Hqt := (unsent_done m true c) $$ Hqt
  ihave Hqf := (unsent_done m false c) $$ Hqf
  iapply h₁ $$ [Hx Hin Hoo]
  · isplitl [Hx]; · iexact Hx
    isplitl [Hin]; · iexact Hin
    iexact Hoo
  iintro ⟨Hx, Hin, Hoo⟩
  iapply h₂ $$ [Hin Hlt Hlf Hst Hsf Hot Hof HO]
  · isplitr; · iexact HR
    isplitr; · iexact Hlev
    isplitl [Hin]; · iexact Hin
    isplitl [Hlt]; · iexact Hlt
    isplitl [Hlf]; · iexact Hlf
    isplitl [Hst]; · iexact Hst
    isplitl [Hsf]; · iexact Hsf
    isplitl [Hot]; · iexact Hot
    isplitl [Hof]; · iexact Hof
    iexact HO
  iintro ⟨-, -, Hin, Hlt, Hlf, Hst, Hsf, Hot, Hof, HO⟩
  iapply h₃ $$ [Hst Hpt HO]
  · isplitr; · iexact HR
    isplitr; · iexact Hlev
    isplitl [Hst Hpt]
    · iapply (toClose_all m true c)
      isplitl [Hst]; · iexact Hst
      iexact Hpt
    iexact HO
  iintro ⟨-, -, Hct, HO⟩
  iapply h₄ $$ [Hsf Hpf HO]
  · isplitr; · iexact HR
    isplitr; · iexact Hlev
    isplitl [Hsf Hpf]
    · iapply (toClose_all m false c)
      isplitl [Hsf]; · iexact Hsf
      iexact Hpf
    iexact HO
  iintro ⟨-, -, Hcf, HO⟩
  ihave Hct := (closed_all m true c) $$ Hct
  icases Hct with ⟨Hqt', Hbt, Hzts⟩
  ihave Hcf := (closed_all m false c) $$ Hcf
  icases Hcf with ⟨Hqf', Hbf, Hzfs⟩
  ihave Ht := (slots_whole m true c) $$ [Hlt Hbt]
  · isplitl [Hlt]; · iexact Hlt
    iexact Hbt
  icases Ht with ⟨Ht, Hztr⟩
  ihave Hf := (slots_whole m false c) $$ [Hlf Hbf]
  · isplitl [Hlf]; · iexact Hlf
    iexact Hbf
  icases Hf with ⟨Hf, Hzfr⟩
  ihave Hx := (own_gather m c) $$ [Hx Hqt' Hqf']
  · isplitl [Hx]; · iexact Hx
    isplitl [Hqt']; · iexact Hqt'
    iexact Hqf'
  ihave Hout := (outs_done m c) $$ [Hoo Hot Hof]
  · isplitl [Hoo]; · iexact Hoo
    isplitl [Hot]; · iexact Hot
    iexact Hof
  iapply (wp_end c Q)
  iapply Hk
  unfold loopPost
  isplitl [Hx]; · iexact Hx
  isplitl [Hin]; · iexact Hin
  isplitl [Hout]; · iexact Hout
  isplitl [Ht]; · iexact Ht
  isplitl [Hf]; · iexact Hf
  isplitl [Hztr]; · iexact Hztr
  isplitl [Hzts]; · iexact Hzts
  isplitl [Hzfr]; · iexact Hzfr
  isplitl [Hzfs]; · iexact Hzfs
  iexact HO

/-! ## The body -/

/-- What the body starts from, its record names in hand. -/
def bodyIn (c : Dev nD) (f : Buf (Elt F) ((c : Thread nD τ).loc cc0_stg4_0)) : sProp 𝕄 :=
  iprop((ghost m K c ∗ credits c ∗ levAts L lv ∗ scratch c) ∗ owesAny c (O₀ c) ∗ xPts m c ∗ ins m c ∗ oPts c f)
/-- What it leaves. -/
def bodyOut (c : Dev nD) : sProp 𝕄 := iprop(Φ₁ c ∗ owesAny c 0 ∗ xPts m c ∗ ins m c ∗ oPts c (outAt m c))

theorem wp_body (c : Dev nD) (f : Buf (Elt F) ((c : Thread nD τ).loc cc0_stg4_0)) (Q : PUnit → sProp 𝕄) :
    bodyIn m K c f ⊢ iprop((bodyOut m c -∗ Q ⟨⟩) -∗ wpP c (bodyAt ops (canon c)) Q) := by
  have g₀ (f₀) := wp_greet m K false c (owed1 c) f₀ (fun _ => .op (.semSignal ((canon c).right, .tc) barSem (1#32).toInt) fun _ =>
      .op (.semWait barSem (2#32).toInt) fun _ => loops (canon c)) Q
  have g₁ (f₀) := wp_greet m K true c (owed2 c 0 0) f₀ (fun _ => .op (.semWait barSem (2#32).toInt) fun _ => loops (canon c)) Q
  have w := wp_meet m K c (fun _ => loops (canon c)) Q
  have l := wp_loops m K c f Q
  unfold loopPre at l
  unfold loopPost at l
  have ep : places (F := F) c = _ := bigSep_CI fun k : CI => atPos ER (cell c k) 0 ∅ 0
  have ez : (bigSep Finset.univ fun k : CI => (semVal (cell c k) 0 : sProp 𝕄)) = _ := bigSep_CI fun k : CI => semVal (cell c k) 0
  have sb := scratch_back (F := F) c
  unfold scratch at sb
  have t (d : Bool) := tickets (F := F) d c
  have aw (d : Bool) := awaits_all m d c
  rw [bodyAt_eq]
  unfold bodyIn bodyOut Φ₁ ghost credits scratch duties
  rw [ep, ez]
  iintro ⟨⟨⟨#HR, ⟨Hpb, Hptr, Hpts, Hpfr, Hpfs⟩, ⟨Hdts, Hdtr, Hdtb⟩, Hdfs, Hdfr, Hdfb⟩, ⟨Hcb, Hct, Hcf⟩, #Hlev, ⟨%f₀, Hscr⟩⟩, HO, Hx, Hin, Hout⟩ Hk
  ihave Hscr := (Entails.of_eq (slots_split c f₀)) $$ Hscr
  icases Hscr with ⟨Hmine, Hsct, Hscf⟩
  iapply (g₀ f₀) $$ [Hdfb Hsct HO]
  · isplitr; · iexact HR
    isplitl [Hdfb]; · iexact Hdfb
    isplitl [Hsct]; · iexact Hsct
    iexact HO
  iintro HO
  iapply (g₁ f₀) $$ [Hdtb Hscf HO]
  · isplitr; · iexact HR
    isplitl [Hdtb]; · iexact Hdtb
    isplitl [Hscf]; · iexact Hscf
    iexact HO
  iintro HO
  iapply w $$ [Hcb Hpb HO]
  · isplitr; · iexact HR
    isplitr; · iexact Hlev
    isplitl [Hcb]; · iexact Hcb
    isplitl [Hpb]; · iexact Hpb
    iexact HO
  iintro ⟨Hbt, Hbf, Hzb, HO⟩
  ihave Hst := (t true) $$ [Hdts Hdtr Hbt]
  · isplitl [Hdts]; · iexact Hdts
    isplitl [Hdtr]; · iexact Hdtr
    iexact Hbt
  ihave Hsf := (t false) $$ [Hdfs Hdfr Hbf]
  · isplitl [Hdfs]; · iexact Hdfs
    isplitl [Hdfr]; · iexact Hdfr
    iexact Hbf
  ihave Hlt := (aw true) $$ [Hct Hptr]
  · isplitl [Hct]; · iexact Hct
    iexact Hptr
  ihave Hlf := (aw false) $$ [Hcf Hpfr]
  · isplitl [Hcf]; · iexact Hcf
    iexact Hpfr
  iapply l $$ [Hx Hin Hout Hst Hsf Hlt Hlf Hpts Hpfs HO]
  · isplitr; · iexact HR
    isplitr; · iexact Hlev
    isplitl [Hx]; · iexact Hx
    isplitl [Hin]; · iexact Hin
    isplitl [Hout]; · iexact Hout
    isplitl [Hst]; · iexact Hst
    isplitl [Hsf]; · iexact Hsf
    isplitl [Hlt]; · iexact Hlt
    isplitl [Hlf]; · iexact Hlf
    isplitl [Hpts]; · iexact Hpts
    isplitl [Hpfs]; · iexact Hpfs
    iexact HO
  iintro ⟨Hx, Hin, Hout, Ht, Hf, Hztr, Hzts, Hzfr, Hzfs, HO⟩
  iapply Hk
  isplitl [Hmine Ht Hf Hzb Hztr Hzts Hzfr Hzfs]
  · isplitl [Hmine Ht Hf]
    · iapply (sb f₀)
      isplitl [Hmine]; · iexact Hmine
      isplitl [Ht]; · iexact Ht
      iexact Hf
    isplitl [Hzb]; · iexact Hzb
    isplitl [Hztr]; · iexact Hztr
    isplitl [Hzts]; · iexact Hzts
    isplitl [Hzfr]; · iexact Hzfr
    iexact Hzfs
  isplitl [HO]; · iexact HO
  isplitl [Hx]; · iexact Hx
  isplitl [Hin]; · iexact Hin
  iexact Hout

/-- The printed body. -/
theorem wp_printed (c : Dev nD) (f : Buf (Elt F) ((c : Thread nD τ).loc cc0_stg4_0)) (Q : PUnit → sProp 𝕄) :
    bodyIn m K c f ⊢ iprop((bodyOut m c -∗ Q ⟨⟩) -∗ wpP c (cc0_body ops.a0 ops.h0 ops.a1 ops.h1 ops.a2 ops.h2 ops.a3 ops.h3 ops.a4 ops.h4
      ops.a5 ops.h5 ops.a6 ops.a7 ops.a8 ops.a9) Q) := by
  have e := cc0_body_eq (F := F) ops
  rw [printed_eq] at e
  have h : wpP c (body ops canon) Q = wpP (F := F) c (bodyAt ops (canon c)) Q := by
    unfold body wpP
    rw [wp_deviceId]
  exact (wp_body m K c f Q).trans (Entails.of_eq (congrArg (fun X : sProp 𝕄 => iprop((bodyOut m c -∗ Q ⟨⟩) -∗ X))
    (h.symm.trans (congrArg (fun p : Pg F => wpP c p Q) e.symm))))

end Cert.KernelIdeal.Ring
-- ==== Proof.KernelIdeal.Point.lean ====
/-
  The body at the pipeline's one point: the staging buffers fetched before it, and what it leaves in them.
-/
module

public import proofs.«01_k».proof.Proof.KernelIdeal.Body
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the pipeline's windows hold, before and after the point. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 5) t0_0 d = xstg m c := by
  unfold Dat.before; rw [if_pos (fetch0_0 t0_0)]; rfl
theorem before_1 (c : Dev nD) (d) : (dats m 0 c).before (1 : Fin 5) t0_0 d = wstg m c := by
  unfold Dat.before; rw [if_pos (fetch0_1 t0_0)]; rfl
theorem before_2 (c : Dev nD) (d) : (dats m 0 c).before (2 : Fin 5) t0_0 d = sxstg m c := by
  unfold Dat.before; rw [if_pos (fetch0_2 t0_0)]; rfl
theorem before_3 (c : Dev nD) (d) : (dats m 0 c).before (3 : Fin 5) t0_0 d = swstg m c := by
  unfold Dat.before; rw [if_pos (fetch0_3 t0_0)]; rfl

/-- What the pipeline hands the body, and what it takes back. -/
def pointPre (c : Dev nD) : sProp 𝕄 :=
  iprop(Φ₀ m c ∗ (dats m 0 c).owesAt () t0_0.castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
def pointPost (c : Dev nD) : sProp 𝕄 :=
  iprop(Φ₁ c ∗ (dats m 0 c).owesAt () t0_0.succ ∗ stg c cc0_stg0_0 (xstg m c) ∗ stg c cc0_stg1_0 (wstg m c)
    ∗ stg c cc0_stg2_0 (sxstg m c) ∗ stg c cc0_stg3_0 (swstg m c) ∗ stg c cc0_stg4_0 (outAt m c))

theorem owes_in (c : Dev nD) : (dats m 0 c).owesAt () t0_0.castSucc ⊢ (owesAny (F := F) c (O₀ c) : sProp 𝕄) := by
  unfold Dat.owesAt Pipeline.owesWithin owesAny
  rw [show (dats m 0 c).owed t0_0.castSucc = O₀ c from rfl]
  iintro ⟨%W, %hW, HO⟩
  iexists W; iexact HO
theorem owes_out (c : Dev nD) : (owesAny (F := F) c 0 : sProp 𝕄) ⊢ (dats m 0 c).owesAt () t0_0.succ := by
  unfold Dat.owesAt Pipeline.owesWithin owesAny
  rw [show (dats m 0 c).owed t0_0.succ = 0 from rfl]
  iintro ⟨%W, HO⟩
  iexists W; isplitr; · ipureintro; exact fun _ _ => Or.inl trivial
  iexact HO

/-- What the pipeline hands it is what the body starts from. -/
theorem point_in (c : Dev nD) : pointPre m c ⊢ (iprop(∃ K f, bodyIn m K c f) : sProp 𝕄) := by
  unfold pointPre Φ₀ start bodyIn ins
  iintro ⟨⟨⟨⟨%K, Hg⟩, Hc, Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  obtain rfl : g0 = xstg m c := hg0.trans (before_0 m c d0)
  obtain rfl : g1 = wstg m c := hg1.trans (before_1 m c d1)
  obtain rfl : g2 = sxstg m c := hg2.trans (before_2 m c d2)
  obtain rfl : g3 = swstg m c := hg3.trans (before_3 m c d3)
  ihave HO := (owes_in m c) $$ Ho
  iexists K
  iexists g4
  isplitl [Hg Hc Hlev Hscr]
  · isplitl [Hg]; · iexact Hg
    isplitl [Hc]; · iexact Hc
    isplitl [Hlev] <;> iassumption
  isplitl [HO]; · iexact HO
  isplitl [H0]; · iexact H0
  isplitl [H1 H2 H3]
  · isplitl [H1]; · iexact H1
    isplitl [H2] <;> iassumption
  iexact H4

omit [FloatOps F] in
theorem stg_intro (c : Dev nD) (b : Ref sig .tc) (X : b.ty.Contents (Elt F)) :
    (((c : Thread nD τ).loc b) ↦{fullShare} X : sProp 𝕄) ⊢ stg c b X := by
  iintro H
  iexists X
  isplitr; · (ipureintro; rfl)
  iexact H

theorem point_out (c : Dev nD) : bodyOut m c ⊢ (pointPost m c : sProp 𝕄) := by
  unfold bodyOut pointPost ins
  iintro ⟨HΦ, HO, H0, ⟨H1, H2, H3⟩, H4⟩
  isplitl [HΦ]; · iexact HΦ
  isplitl [HO]; · iapply (owes_out m c); iexact HO
  isplitl [H0]; · iapply (stg_intro c cc0_stg0_0 (xstg m c)); iexact H0
  isplitl [H1]; · iapply (stg_intro c cc0_stg1_0 (wstg m c)); iexact H1
  isplitl [H2]; · iapply (stg_intro c cc0_stg2_0 (sxstg m c)); iexact H2
  isplitl [H3]; · iapply (stg_intro c cc0_stg3_0 (swstg m c)); iexact H3
  iapply (stg_intro c cc0_stg4_0 (outAt m c)); iexact H4

theorem wp_point (c : Dev nD) : pointPre m c ⊢ wpP c (cc0_body ops.a0 ops.h0 ops.a1 ops.h1 ops.a2 ops.h2 ops.a3 ops.h3 ops.a4 ops.h4
      ops.a5 ops.h5 ops.a6 ops.a7 ops.a8 ops.a9) (fun _ => pointPost m c) := by
  iintro H
  ihave H := (point_in m c) $$ H
  icases H with ⟨%K, %f, H⟩
  iapply (wp_printed m K c f fun _ => pointPost m c) $$ H
  iintro H
  iapply (point_out m c); iexact H

attribute [local irreducible] cc0_body in
theorem bodyAt_printed : bodyAt0 (F := F) t0_0 = cc0_body ops.a0 ops.h0 ops.a1 ops.h1 ops.a2 ops.h2 ops.a3 ops.h3 ops.a4 ops.h4
    ops.a5 ops.h5 ops.a6 ops.a7 ops.a8 ops.a9 := rfl

attribute [local irreducible] cc0_body in
theorem defs_bodyAt : (defs₀ (F := F)) .tc cfg0.body (cfg0.bodyArgs t0_0 (cfg0.slots t0_0)) = bodyAt0 t0_0 := rfl

attribute [local irreducible] cc0_body in
theorem wp_at (c : Dev nD) : pointPre m c ⊢ wp frame (wpE (defs₀ (F := F)) 𝒱₀ c none) Set.univ
    ((defs₀ (F := F)) .tc cfg0.body (cfg0.bodyArgs t0_0 (cfg0.slots t0_0))) (fun _ => pointPost m c) :=
  (wp_point m c).trans (Entails.of_eq (congrArg (fun p : Pg F => wpP c p fun _ => pointPost m c)
    ((bodyAt_printed (F := F)).symm.trans (defs_bodyAt (F := F)).symm)))

attribute [local irreducible] cc0_body in
/-- The body obligation of the pipeline on a core. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact wp_at m c

end Cert.KernelIdeal.Ring
-- ==== Proof.KernelIdeal.Launch.lean ====
/-
  The launch: the protocol's ghost state made, dealt around the ring, and the whole program run.
-/
module

public import proofs.«01_k».proof.Proof.KernelIdeal.Point
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

/-- The kernel's own semaphores. -/
abbrev osem (p : Bool × Bool × Fin 30) : SemLoc sig := csem (some p)

theorem ownSemFacts : Pipeline.OwnSemFacts cfg0.spec osem where
  isScoped := by decide +kernel
  inj := fun a b h => Option.some.inj (csem_injective h)
  disj := by decide +kernel

theorem share_eq (c : Dev nD) (w : Fin cfg0.W) : (dats m 0 c).share w = fullShare := by unfold Dat.share; split <;> rfl

abbrev kcell (ck : Dev nD × CI) : GSem nD τ sig := cell ck.1 ck.2
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A cell's duties, by number: a barrier's two, a transfer's one. -/
def tokKey : Bool ⊕ (Bool × Bool × Fin 30) → CI × Bool
  | .inl b => (none, b)
  | .inr p => (some p, false)
theorem tokKey_injective : Function.Injective tokKey := by
  rintro (b | p) (b' | p') h
  · exact congrArg Sum.inl (congrArg Prod.snd h)
  · exact (Option.some_ne_none _ (congrArg Prod.fst h).symm).elim
  · exact (Option.some_ne_none _ (congrArg Prod.fst h)).elim
  · exact congrArg Sum.inr (Option.some.inj (congrArg Prod.fst h))
abbrev tokOf (cj : Dev nD × (Bool ⊕ (Bool × Bool × Fin 30))) : GSem nD τ sig × ℕ × Bool := (cell cj.1 (tokKey cj.2).1, 0, (tokKey cj.2).2)
theorem tokOf_injective : Function.Injective tokOf := by
  rintro ⟨c, j⟩ ⟨c', j'⟩ h
  have h0 := kcell_injective (a₁ := (c, (tokKey j).1)) (a₂ := (c', (tokKey j').1)) (congrArg Prod.fst h)
  have h1 : c = c' := congrArg Prod.fst h0
  have h2 : tokKey j = tokKey j' := Prod.ext (congrArg Prod.snd h0) (congrArg (fun x : GSem nD τ sig × ℕ × Bool => x.2.2) h)
  rw [h1, tokKey_injective h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duties of a device's own cells. -/
def toks (c : Dev nD) : sProp 𝕄 := bigSep Finset.univ fun j : Bool ⊕ (Bool × Bool × Fin 30) => dutyTok ER (cell c (tokKey j).1) 0 (tokKey j).2
/-- A device's places and open rounds. -/
def opened (c : Dev nD) : sProp 𝕄 := bigSep Finset.univ fun k : CI => iprop(atPos ER (cell c k) 0 ∅ 0 ∗ reached ER (cell c k) 0)

/-- What the launch deals device `c`. -/
def G (c : Dev nD) : sProp 𝕄 := iprop((bigSep Finset.univ fun k : CI => roundState ER (Rd m) (cell c k) 0) ∗ opened c ∗ toks c)
/-- What the step common to all devices makes of it. -/
def G' (c : Dev nD) : sProp 𝕄 := iprop(∃ K, ghost m K c)

omit [FloatOps F] in
theorem over_cells (Φ : GSem nD τ sig → sProp 𝕄) : bigSep ringCells Φ = bigSep Finset.univ fun c : Dev nD => bigSep Finset.univ fun k : CI => Φ (cell c k) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks c := by
  unfold ringToks toks; rw [bigSep_map, bigSep_univ_prod]; rfl

omit [FloatOps F] in
theorem fund_ring : BI.own (ER (initOf ringCells ringToks)) ⊢ (|==> bigSep Finset.univ (G m) : sProp 𝕄) := by
  have h₁ := over_cells (F := F) fun g => roundState ER (Rd m) g 0
  have h₂ := over_cells (F := F) fun g => atPos ER g 0 ∅ 0
  have h₃ := over_cells (F := F) fun g => reached ER g 0
  unfold G opened; simp only [bigSep_sep']
  iintro HX
  imod (Rounds.fund ER (Rd m) ringCells ringToks) $$ HX with ⟨Hst, Hr, Hat, Htok⟩
  imodintro
  ihave Hst := (Entails.of_eq h₁) $$ Hst
  ihave Hat := (Entails.of_eq h₂) $$ Hat
  ihave Hr := (Entails.of_eq h₃) $$ Hr
  ihave Htok := (Entails.of_eq (over_toks (F := F))) $$ Htok
  isplitl [Hst]; · iexact Hst
  isplitl [Hat Hr]
  · isplitl [Hat] <;> iassumption
  iexact Htok

/-! ## The semaphores -/

omit [FloatOps F] in
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

omit [FloatOps F] in
/-- The transfers' semaphores are the kernel's own, the barrier the one other. -/
theorem sems_eq (c : Dev nD) :
    (bigSep Finset.univ fun k : CI => semVal (cell c k) 0 : sProp 𝕄)
      = iprop(Pipeline.ownSems0 (Ix := Unit) (Name := ℕ) (U := UU) (Lvl := ℕ) (Val := Elt F) (τ := τ) osem c ∗ unscopedSems0 c) := by
  rw [unscopedSems0_eq, bigSep_option]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k))) ∗ opened c ∗ toks c) := by
  have ha : iprop((bigSep Finset.univ fun k : CI => semVal (cell c k) 0) ∗ bigSep Finset.univ fun k : CI => roundState ER (Rd m) (cell c k) 0)
      ⊢ (|={Set.univ}=> bigSep Finset.univ fun k => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  rw [sems_eq] at ha
  unfold G
  iintro ⟨Hos, Hus, Hst, Hat, Htok⟩
  imod ha $$ [Hos Hus Hst] with Hinv
  · isplitr [Hst]
    · isplitl [Hos] <;> iassumption
    iexact Hst
  imodintro
  isplitl [Hinv]; · iexact Hinv
  isplitl [Hat]; · iexact Hat
  iexact Htok

/-! ## The duties dealt around the ring -/

omit [FloatOps F] in
theorem toks_eq (c : Dev nD) : (toks c : sProp 𝕄) = iprop((dutyTok ER (barCell c) 0 true ∗ dutyTok ER (barCell c) 0 false)
    ∗ ((bigSep Finset.univ fun j : Fin 30 => dutyTok ER (xferCell c true true j) 0 false) ∗ (bigSep Finset.univ fun j : Fin 30 => dutyTok ER (xferCell c true false j) 0 false))
    ∗ ((bigSep Finset.univ fun j : Fin 30 => dutyTok ER (xferCell c false true j) 0 false) ∗ bigSep Finset.univ fun j : Fin 30 => dutyTok ER (xferCell c false false j) 0 false)) := by
  unfold toks
  rw [bigSep_univ_sum]
  refine (congrArg₂ (fun X Y : sProp 𝕄 => iprop(X ∗ Y)) (bigSep_bool fun b => dutyTok ER (barCell c) 0 b)
    (bigSep_xfers fun p => dutyTok ER (cell c (some p)) 0 false)).trans ?_
  rfl

omit [FloatOps F] in
/-- Every barrier duty and every landing's duty goes to the neighbour that pays it. -/
theorem toks_around : (bigSep Finset.univ fun c : Dev nD => (toks c : sProp 𝕄))
    ⊢ bigSep Finset.univ fun c : Dev nD => iprop(duties (F := F) true c ∗ duties false c) := by
  have e₁ := bigSep_univ_equiv (turn false) (fun c : Dev nD => (dutyTok ER (barCell c) 0 true : sProp 𝕄))
  have e₂ := bigSep_univ_equiv (turn true) (fun c : Dev nD => (dutyTok ER (barCell c) 0 false : sProp 𝕄))
  have e₃ (d : Bool) := bigSep_univ_equiv (turn d) (fun c : Dev nD => (bigSep Finset.univ fun j : Fin 30 => dutyTok ER (xferCell c d true j) 0 false : sProp 𝕄))
  rw [bigSep_congr (s := Finset.univ) (fun (c : Dev nD) _ => toks_eq (F := F) c)]
  unfold duties
  simp only [bigSep_sep']
  rw [e₁, e₂, e₃ true, e₃ false]
  iintro ⟨⟨Hbt, Hbf⟩, ⟨Htr, Hts⟩, Hfr, Hfs⟩
  isplitl [Hbf Htr Hts]
  · isplitl [Hts]; · iexact Hts
    isplitl [Htr]; · iexact Htr
    iexact Hbf
  isplitl [Hfs]; · iexact Hfs
  isplitl [Hfr]; · iexact Hfr
  iexact Hbt

omit [FloatOps F] in
/-- What every index needs of a persistent part, given once. -/
theorem bigSep_sharing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's places and the duties it pays. -/
def linear (c : Dev nD) : sProp 𝕄 := iprop(places (F := F) c ∗ duties true c ∗ duties false c)

omit [FloatOps F] in
theorem ghost_intro (K : Dev nD × CI → ℕ) (c : Dev nD) : iprop(records m K ∗ linear c) ⊢ G' m c := by
  unfold linear G' ghost
  iintro ⟨HR, Hp, Ht, Hf⟩
  iexists K
  isplitl [HR]; · iexact HR
  isplitl [Hp]; · iexact Hp
  isplitl [Ht] <;> iassumption

omit [FloatOps F] in
theorem invs_names : (bigSep Finset.univ fun c : Dev nD => bigSep Finset.univ fun k : CI => iprop(∃ κ : ℕ, cellInv ER (Rd m) κ (cell c k)) : sProp 𝕄)
    ⊢ iprop(∃ K : Dev nD × CI → ℕ, bigSep Finset.univ fun ck : Dev nD × CI => cellInv ER (Rd m) (K ck) (cell ck.1 ck.2)) := by
  rw [← bigSep_univ_prod (fun ck : Dev nD × CI => iprop(∃ κ : ℕ, cellInv ER (Rd (F := F) m) κ (cell ck.1 ck.2)))]
  exact BI.bigSep_exists_pi Finset.univ (fun (ck : Dev nD × CI) (κ : ℕ) => (cellInv ER (Rd m) κ (cell ck.1 ck.2) : sProp 𝕄))

omit [FloatOps F] in
theorem opened_all : (bigSep Finset.univ fun c : Dev nD => (opened c : sProp 𝕄))
    = iprop((bigSep Finset.univ fun c : Dev nD => places c) ∗ bigSep Finset.univ fun ck : Dev nD × CI => reached ER (cell ck.1 ck.2) 0) := by
  unfold opened places
  rw [bigSep_congr (s := Finset.univ) (fun (c : Dev nD) _ => bigSep_sep' Finset.univ (fun k : CI => (atPos ER (cell c k) 0 ∅ 0 : sProp 𝕄)) (fun k => reached ER (cell c k) 0)),
    bigSep_sep', ← bigSep_univ_prod (fun ck : Dev nD × CI => (reached ER (cell ck.1 ck.2) 0 : sProp 𝕄))]

omit [FloatOps F] in
theorem records_intro (K : Dev nD × CI → ℕ) :
    iprop((bigSep Finset.univ fun ck : Dev nD × CI => cellInv ER (Rd m) (K ck) (cell ck.1 ck.2)) ∗ bigSep Finset.univ fun ck : Dev nD × CI => reached ER (cell ck.1 ck.2) 0)
      ⊢ (records m K : sProp 𝕄) := by
  unfold records; rw [bigSep_sep']

omit [FloatOps F] in
theorem regroup :
    (bigSep Finset.univ fun c : Dev nD => iprop((bigSep Finset.univ fun k => iprop(∃ κ : ℕ, cellInv ER (Rd m) κ (cell c k))) ∗ opened c ∗ toks c) : sProp 𝕄)
      ⊢ bigSep Finset.univ (G' m) := by
  have hl : iprop((bigSep Finset.univ fun c : Dev nD => places (F := F) c) ∗ bigSep Finset.univ fun c : Dev nD => iprop(duties (F := F) true c ∗ duties false c))
      = bigSep Finset.univ fun c : Dev nD => linear c := by
    unfold linear; rw [bigSep_sep' Finset.univ (fun c : Dev nD => places (F := F) c)]
  rw [bigSep_sep', bigSep_sep', opened_all]
  iintro ⟨HI, ⟨Hat, HR⟩, Htok⟩
  ihave HK := (invs_names m) $$ HI
  icases HK with ⟨%K, HI⟩
  ihave Htk := (toks_around (F := F)) $$ Htok
  iapply (bigSep_sharing (R := records m K) fun c _ => ghost_intro m K c)
  isplitl [HI HR]
  · iapply (records_intro m K)
    isplitl [HI] <;> iassumption
  · iapply (Entails.of_eq hl)
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- The credit of one direction's landings. -/
theorem cred_dir (d : Bool) (c : Dev nD) :
    (Pipeline.launchCred (fun c => owedD d c 0) c : sProp 𝕄) ⊢ bigSep Finset.univ fun j : Fin 30 => cred (tallyAt (xferCell c d true j) () N) := by
  have e : (fun c : Dev nD => owedD d c 0) = fun c => ∑ j ∈ Finset.univ, tallyAt (xferCell (nb d c) d true j) () N := by
    funext c; unfold owedD; rw [Finset.filter_true_of_mem fun j _ => Nat.zero_le _]
  rw [e, Pipeline.launchCred_sum]
  exact bigSep_mono fun j _ => Pipeline.launchCred_tallyAt (csem (some (d, true, j))) (nb d) (pb d) (nb_pb d) (pb_nb d) () N c
omit [FloatOps F] in
theorem cred_unit (d : Bool) (c : Dev nD) :
    (Pipeline.launchCred (fun c => tallyAt (barCell (nb d c)) () 1) c : sProp 𝕄) ⊢ cred (tallyAt (barCell c) () 1) :=
  Pipeline.launchCred_tallyAt (csem none) (nb d) (pb d) (nb_pb d) (pb_nb d) () 1 c

omit [FloatOps F] in
theorem creds (c : Dev nD) : (Pipeline.launchCred O₀ c : sProp 𝕄) ⊢ credits c := by
  have e : O₀ = fun c => ((owedD true c 0 + owedD false c 0) + tallyAt (barCell (nb true c)) () 1) + tallyAt (barCell (nb false c)) () 1 := rfl
  have e2 : (tallyAt (barCell c) () 2 : CellTallies nD τ sig Unit) = tallyAt (barCell c) () 1 + tallyAt (barCell c) () 1 := by
    unfold tallyAt; rw [← tallyOn_add, ← Finsupp.single_add]
  have h₂ : iprop(cred (tallyAt (barCell c) () 1) ∗ cred (tallyAt (barCell c) () 1)) ⊢ (cred (tallyAt (barCell c) () 2) : sProp 𝕄) := by
    rw [e2]; exact (cred_add _ _).2
  rw [e, Pipeline.launchCred_add, Pipeline.launchCred_add, Pipeline.launchCred_add]
  unfold credits
  iintro ⟨⟨⟨Ht, Hf⟩, Hr⟩, Hl⟩
  ihave Ht := (cred_dir (F := F) true c) $$ Ht
  ihave Hf := (cred_dir (F := F) false c) $$ Hf
  ihave Hr := (cred_unit (F := F) true c) $$ Hr
  ihave Hl := (cred_unit (F := F) false c) $$ Hl
  isplitl [Hr Hl]
  · iapply h₂
    isplitl [Hr] <;> iassumption
  isplitl [Ht] <;> iassumption

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HG⟩
  ihave Hc := (creds (F := F) c) $$ Hcr
  imodintro
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems_eq]
  iintro ⟨Hr, Ho, Hu⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What window `w`'s array holds at the end. -/
def finalA (c : Dev nD) (w : Fin cfg0.W) : Buf (Elt F) ((cfg0.win w).arr.view.loc (c : Thread nD τ)) := (dats m 0 c).arrAt w cfg0.N

/-- Every window's array at its final contents. -/
def Ends : PUnit × MemSt nD τ sig (Elt F) → Prop := fun r =>
  ∀ c : Dev nD, ∀ w : Fin cfg0.W, r.2.mem ((cfg0.win w).arr.view.loc (c : Thread nD τ)) = finalA m c w

attribute [local irreducible] cc0_body in
set_option maxRecDepth 8000 in
/-- From any memory with the semaphores at zero, every fair execution ends, the arrays at their final contents and the
    semaphores at zero again. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.KernelIdeal.Frame.lean ====
/-
  What the whole program leaves: the arguments as they were, every semaphore at zero, and the result array holding
  what the body left in its staging buffer.
-/
module

public import proofs.«01_k».proof.Proof.KernelIdeal.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array at the end. -/
theorem finalA_out (c : Dev nD) : (win0_4.blk t0_0).view.read (Elt F) (finalA m c (4 : Fin 5)) = outAt m c := by
  unfold finalA
  rw [show cfg0.N = (t0_0 : Fin cfg0.N).val + 1 from rfl, (dats m 0 c).arrAt_succ (4 : Fin 5) t0_0]
  rw [flush0_4 t0_0, if_pos rfl]
  exact View.read_write_univ _ _

theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
    ∧ r.2.sem = fun _ => 0) :=
  (θ_run defs _ _).mono (fun _ h => ⟨fun c => ⟨(h.1 c 0).trans ((dats m 0 c).arrAt_in (0 : Fin 5) rfl _),
    (h.1 c 1).trans ((dats m 0 c).arrAt_in (1 : Fin 5) rfl _), (h.1 c 2).trans ((dats m 0 c).arrAt_in (2 : Fin 5) rfl _),
    (h.1 c 3).trans ((dats m 0 c).arrAt_in (3 : Fin 5) rfl _)⟩, h.2⟩) (run_main m ρ)

/-- The same run, the result array named. -/
theorem run_out : θ_run defs (onTc (τ := τ) (main (F := F))) ⟨m, fun _ => 0, ρ⟩ (fun r => ∀ c : Dev nD,
    r.2.mem ((c : Thread nD τ).loc main_v1) = finalA m c (4 : Fin 5)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => ⟨h.1 c 4, (h.1 c 0).trans ((dats m 0 c).arrAt_in (0 : Fin 5) rfl _),
    (h.1 c 1).trans ((dats m 0 c).arrAt_in (1 : Fin 5) rfl _), (h.1 c 2).trans ((dats m 0 c).arrAt_in (2 : Fin 5) rfl _),
    (h.1 c 3).trans ((dats m 0 c).arrAt_in (3 : Fin 5) rfl _)⟩) (run_main m ρ)

end Cert.KernelIdeal.Ring
-- ==== Proof.Value.Entry.lean ====
/-
  One entry of the result, over the extended reals: a row of the left operand against a column of the right one,
  scaled, then gated. The two programs write the gate differently.
-/
module

public import Idealize.ShloMosaic.PureOps.Ideal
public import Idealize.ShloMosaic.PureOps.Ideal.Laws
public import Idealize.ShloMosaic.Lib.MatmulPlain

@[expose] public section

noncomputable section

namespace Cert.Entry

open Idealize.ShloMosaic
open scoped BigOperators

/-- The scaled product of a row and a column. -/
def scaled (X W : Fin 4096 → EReal) (sx sw : EReal) : EReal := (∑ k : Fin 4096, X k * W k) * (sx * sw)

/-- The gate: `y · (1/(1 + exp(-y)))`. -/
def gate (y : EReal) : EReal := y * Ideal.div 1 (1 + Ideal.exp (0 - y))

theorem exp_nonneg (x : EReal) : 0 ≤ Ideal.exp x := by
  induction x using EReal.rec with
  | bot => exact le_rfl
  | top => exact le_top
  | coe r => exact EReal.coe_nonneg.mpr (Real.exp_pos r).le

theorem one_add_exp_ne (x : EReal) : 1 + Ideal.exp x ≠ 0 := by
  have h : (1 : EReal) ≤ 1 + Ideal.exp x := le_add_of_nonneg_right (exp_nonneg x)
  exact (lt_of_lt_of_le zero_lt_one h).ne'

/-- The quotient by `1 + exp(-y)`, `y` clipped to the whole line, is the gate. -/
theorem quotient_gate (y : EReal) : Ideal.div y (1 + Ideal.exp (0 - min ⊤ (max ⊥ y))) = gate y := by
  rw [max_eq_right bot_le, min_eq_right le_top]
  unfold gate Ideal.div
  rw [if_neg (one_add_exp_ne _), if_neg (one_add_exp_ne _), one_mul]

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num

end Cert.Entry

end
-- ==== Proof.Value.Ring.lean ====
/-
  The ring's result array: device `c`'s entry at row `r` and column `l` is the row `r` of the left operand, held by
  device `r / 256`, against the column `l` of the device's own block of the right one.
-/
module

public import proofs.«01_k».proof.Proof.KernelIdeal.Frame
public import proofs.«01_k».proof.Proof.Value.Entry
public import Idealize.ShloMosaic.Lib.Pipeline.ValueKit

@[expose] public section

noncomputable section

namespace Cert.KernelIdeal.Ring

open Cert.KernelIdeal Cert.KernelIdeal.Gen
open Idealize.ShloMosaic Idealize.ShloMosaic.TcCoe Idealize.SL.Sem
open scoped BigOperators

section Generic

variable {F : FTy → Type} [FloatOps F]
variable (m : (ℓ : Loc nD τ sig) → Buf (Elt F) ℓ)

/-- The one place of a scale. -/
def pt : S1.Idx := fun a => match a with | ⟨0, _⟩ => (0 : Fin 1)

theorem off_zero : (![0, 0] : Fin 2 → Nat) = fun _ => 0 := funext fun a => by fin_cases a <;> rfl

/-- Every window's block is its whole array. -/
theorem place0 (j : S256x4096.Idx) : (win0_0.blk (0 : Fin 1)).view.emb j = j := by
  funext a; apply Fin.ext
  match a with
  | ⟨0, _⟩ => show 0 * 256 + 1 * (j 0).val = (j 0).val; omega
  | ⟨1, _⟩ => show 0 * 4096 + 1 * (j 1).val = (j 1).val; omega
theorem place1 (j : S4096x128.Idx) : (win0_1.blk (0 : Fin 1)).view.emb j = j := by
  funext a; apply Fin.ext
  match a with
  | ⟨0, _⟩ => show 0 * 4096 + 1 * (j 0).val = (j 0).val; omega
  | ⟨1, _⟩ => show 0 * 128 + 1 * (j 1).val = (j 1).val; omega
theorem place2 (j : S1.Idx) : (win0_2.blk (0 : Fin 1)).view.emb j = j := by
  funext a; apply Fin.ext
  match a with
  | ⟨0, _⟩ => show 0 * 1 + 1 * (j 0).val = (j 0).val; omega
theorem place3 (j : S1.Idx) : (win0_3.blk (0 : Fin 1)).view.emb j = j := by
  funext a; apply Fin.ext
  match a with
  | ⟨0, _⟩ => show 0 * 1 + 1 * (j 0).val = (j 0).val; omega
theorem place4 (j : S4096x128.Idx) : (win0_4.blk t0_0).view.emb j = j := by
  funext a; apply Fin.ext
  match a with
  | ⟨0, _⟩ => show 0 * 4096 + 1 * (j 0).val = (j 0).val; omega
  | ⟨1, _⟩ => show 0 * 128 + 1 * (j 1).val = (j 1).val; omega

omit [FloatOps F] in
theorem xstg_eq (c : Dev nD) : xstg m c = m ((c : Thread nD τ).loc main_arg0) :=
  funext fun j => congrArg (m ((c : Thread nD τ).loc main_arg0)) (place0 j)
omit [FloatOps F] in
theorem wstg_eq (c : Dev nD) : wstg m c = m ((c : Thread nD τ).loc main_arg1) :=
  funext fun j => congrArg (m ((c : Thread nD τ).loc main_arg1)) (place1 j)
omit [FloatOps F] in
theorem sxstg_eq (c : Dev nD) : sxstg m c = m ((c : Thread nD τ).loc main_arg2) :=
  funext fun j => congrArg (m ((c : Thread nD τ).loc main_arg2)) (place2 j)
omit [FloatOps F] in
theorem swstg_eq (c : Dev nD) : swstg m c = m ((c : Thread nD τ).loc main_arg3) :=
  funext fun j => congrArg (m ((c : Thread nD τ).loc main_arg3)) (place3 j)

omit [FloatOps F] in
theorem wval_eq (c : Dev nD) : wval m c = m ((c : Thread nD τ).loc main_arg1) := by
  unfold wval
  rw [View.readAt_eq_ld, wstg_eq]
  exact View.ld_unit_zero (S := S4096x128) off_zero _ _
omit [FloatOps F] in
theorem sxval_eq (c : Dev nD) : sxval m c = m ((c : Thread nD τ).loc main_arg2) pt := by
  unfold sxval
  rw [sxstg_eq]
  exact congrArg (m ((c : Thread nD τ).loc main_arg2)) (funext fun a => by match a with | ⟨0, _⟩ => rfl)
omit [FloatOps F] in
theorem swval_eq (c : Dev nD) : swval m c = m ((c : Thread nD τ).loc main_arg3) pt := by
  unfold swval
  rw [swstg_eq]
  exact congrArg (m ((c : Thread nD τ).loc main_arg3)) (funext fun a => by match a with | ⟨0, _⟩ => rfl)

theorem own_place (u : Fin 4) (z : Fin 64) (k : Fin 4096) :
    (ownM u).view.emb (ValueIdx.ix2 z k) = ValueIdx.ix2 (⟨64 * u.val + z.val, by omega⟩ : Fin 256) k := by
  funext a; apply Fin.ext
  match a with
  | ⟨0, _⟩ => show 64 * u.val + 1 * z.val = 64 * u.val + z.val; omega
  | ⟨1, _⟩ => show 0 + 1 * k.val = k.val; omega

omit [FloatOps F] in
theorem chunk_eq (s : Fin 64) (z : Fin 64) (k : Fin 4096) :
    chunk m s (ValueIdx.ix2 z k)
      = m (((devOf s : Dev nD) : Thread nD τ).loc main_arg0) (ValueIdx.ix2 (⟨64 * (quarter s).val + z.val, by have := (quarter s).isLt; omega⟩ : Fin 256) k) := by
  unfold chunk
  rw [xstg_eq]
  exact congrArg (m (((devOf s : Dev nD) : Thread nD τ).loc main_arg0)) (own_place (quarter s) z k)

theorem out_place (s : Fin 64) (z : Fin 64) (l : Fin 128) :
    ((ops.a4).access (outR s)).emb (ValueIdx.ix2 z l) = ValueIdx.ix2 (⟨64 * s.val + z.val, by omega⟩ : Fin 4096) l := by
  funext a; apply Fin.ext
  match a with
  | ⟨0, _⟩ => show 64 * s.val + 1 * z.val = 64 * s.val + z.val; omega
  | ⟨1, _⟩ => show 0 + 1 * l.val = l.val; omega

theorem finalA_eq (c : Dev nD) : finalA m c (4 : Fin 5) = outAt m c := by
  funext j
  have h : finalA m c (4 : Fin 5) ((win0_4.blk t0_0).view.emb j) = outAt m c j := congrFun (finalA_out m c) j
  rw [place4] at h
  exact h

end Generic

/-- One entry of a block's result. -/
theorem blockOut_entry (x : FVec Ideal S64x4096 .fp8e4m3) (w : Vec Ideal S4096x128 .fp8e5m2) (sx sw : Elt Ideal .f32) (z : Fin 64) (l : Fin 128) :
    blockOut (F := Ideal) x w sx sw (ValueIdx.ix2 z l)
      = Entry.gate (Entry.scaled (fun k => x (ValueIdx.ix2 z k)) (fun k => w (ValueIdx.ix2 k l)) sx sw) := by
  have hd : FloatOps.matmul (F := Ideal) dot_S64x4096_S4096x128_S64x128_1_0_0_1_n_n none (φ₁ := .bf16) (φ₂ := .bf16) x w (fun _ => 0) (ValueIdx.ix2 z l)
      = ∑ k : Fin 4096, x (ValueIdx.ix2 z k) * w (ValueIdx.ix2 k l) :=
    (Ideal.matmul_plain_apply (M := 64) (K := 4096) (N := 128) (φ₁ := .bf16) (φ₂ := .bf16) none x w (fun _ => 0) z l).trans (zero_add _)
  unfold Entry.scaled blockOut Entry.gate
  rw [shapeCast_self, ← hd, ← Entry.ofBits_zero, ← Entry.ofBits_one]
  rfl

/-- One entry of a device's result. -/
theorem out_entry (m : (ℓ : Loc nD τ sig) → Buf (Elt Ideal) ℓ) (c : Dev nD) (s : Fin 64) (z : Fin 64) (l : Fin 128) :
    finalA (F := Ideal) m c (4 : Fin 5) (ValueIdx.ix2 (⟨64 * s.val + z.val, by omega⟩ : Fin 4096) l)
      = Entry.gate (Entry.scaled
          (fun k => m (((devOf s : Dev nD) : Thread nD τ).loc main_arg0)
            (ValueIdx.ix2 (⟨64 * (quarter s).val + z.val, by have := (quarter s).isLt; omega⟩ : Fin 256) k))
          (fun k => m ((c : Thread nD τ).loc main_arg1) (ValueIdx.ix2 k l))
          (m ((c : Thread nD τ).loc main_arg2) pt) (m ((c : Thread nD τ).loc main_arg3) pt)) := by
  have h := outAt_emb m c s (ValueIdx.ix2 z l)
  rw [out_place] at h
  rw [finalA_eq]
  refine h.trans ?_
  unfold outBlk
  rw [blockOut_entry, wval_eq, sxval_eq, swval_eq]
  simp only [chunk_eq]

end Cert.KernelIdeal.Ring

end
-- ==== Proof.Value.Reference.lean ====
/-
  The reference's result array, as a function of its arguments, and one entry of it.
-/
module

public import proofs.«01_k».proof.Proof.Gen.ReferenceIdeal.Value
public import proofs.«01_k».proof.Proof.Value.Entry
public import Idealize.ShloMosaic.Lib.Pipeline.ValueKit

@[expose] public section

noncomputable section

namespace Cert.ReferenceIdeal.Whole

open Cert.ReferenceIdeal Cert.ReferenceIdeal.Gen Cert.ReferenceIdeal.Value
open Idealize.ShloMosaic Idealize.ShloMosaic.TcCoe Idealize.SL.Sem
open scoped BigOperators

section Generic

variable {F : FTy → Type} [FloatOps F] [Named F]
variable (m : (ℓ : Loc nD τ sig) → Buf (Elt F) ℓ) (ρ : Dev nD → PrngReg)

/-- The one place of a scale. -/
def pt : S1.Idx := fun a => match a with | ⟨0, _⟩ => (0 : Fin 1)

/-- The result as the body computes it of whole arguments. -/
def whole (x : Vec F S4096x4096 .fp8e4m3) (w : Vec F S4096x2048 .fp8e5m2) (sx sw : Vec F S1 .f32) : Vec F S4096x2048 .f32 :=
  k0_pay1 x w (sx pt) (sw pt)

theorem off_zero : (![0, 0] : Fin 2 → Nat) = fun _ => 0 := funext fun a => by fin_cases a <;> rfl

theorem body_whole (c : Dev nD) (a0 : Memref sig .tc .vmem S4096x4096 .fp8e4m3) (h0 : a0.IsWhole) (a1 : Memref sig .tc .vmem S4096x2048 .fp8e5m2)
    (h1 : a1.IsWhole) (a2 : Memref sig .tc .smem S1 .f32) (h2 : a2.IsWhole) (a3 : Memref sig .tc .smem S1 .f32) (h3 : a3.IsWhole)
    (a4 : Memref sig .tc .vmem S4096x2048 .f32) (h4 : a4.IsWhole) (x : Vec F S4096x4096 .fp8e4m3) (w : Vec F S4096x2048 .fp8e5m2) (sx sw : Vec F S1 .f32) :
    out0_A_4 c a0 h0 a1 h1 a2 h2 a3 h3 a4 h4 x w sx sw = whole x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero off_zero, View.readAt_eq_ld, View.readAt_eq_ld, View.readAt_eq_ld, View.readAt_eq_ld,
    h0.read_unread, h1.read_unread, h2.read_unread, h3.read_unread, View.ld_unit_zero off_zero, View.ld_unit_zero off_zero]
  exact congrArg₂ (k0_pay1 x w) (congrArg sx (funext fun a => by match a with | ⟨0, _⟩ => rfl))
    (congrArg sw (funext fun a => by match a with | ⟨0, _⟩ => rfl))

/-- At the one point every window's block is its whole array. -/
theorem place0 (t : Fin cfg0.N) (j : S4096x4096.Idx) : ((cfg0.win 0).blk t).view.emb j = j := by
  funext a; apply Fin.ext
  match a with
  | ⟨0, _⟩ => show 0 * 4096 + 1 * (j 0).val = (j 0).val; omega
  | ⟨1, _⟩ => show 0 * 4096 + 1 * (j 1).val = (j 1).val; omega
theorem place1 (t : Fin cfg0.N) (j : S4096x2048.Idx) : ((cfg0.win 1).blk t).view.emb j = j := by
  funext a; apply Fin.ext
  match a with
  | ⟨0, _⟩ => show 0 * 4096 + 1 * (j 0).val = (j 0).val; omega
  | ⟨1, _⟩ => show 0 * 2048 + 1 * (j 1).val = (j 1).val; omega
theorem place2 (t : Fin cfg0.N) (j : S1.Idx) : ((cfg0.win 2).blk t).view.emb j = j := by
  funext a; apply Fin.ext
  match a with
  | ⟨0, _⟩ => show 0 * 1 + 1 * (j 0).val = (j 0).val; omega
theorem place3 (t : Fin cfg0.N) (j : S1.Idx) : ((cfg0.win 3).blk t).view.emb j = j := by
  funext a; apply Fin.ext
  match a with
  | ⟨0, _⟩ => show 0 * 1 + 1 * (j 0).val = (j 0).val; omega
theorem place4 (t : Fin cfg0.N) (j : S4096x2048.Idx) : ((cfg0.win 4).blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem blk0 (c : Dev nD) (t : Fin cfg0.N) : iblk m c 0 t = V m c main_arg0 :=
  funext fun j => congrArg (V m c main_arg0) (place0 t j)
theorem blk1 (c : Dev nD) (t : Fin cfg0.N) : iblk m c 1 t = V m c main_arg1 :=
  funext fun j => congrArg (V m c main_arg1) (place1 t j)
theorem blk2 (c : Dev nD) (t : Fin cfg0.N) : iblk m c 2 t = V m c main_arg2 :=
  funext fun j => congrArg (V m c main_arg2) (place2 t j)
theorem blk3 (c : Dev nD) (t : Fin cfg0.N) : iblk m c 3 t = V m c main_arg3 :=
  funext fun j => congrArg (V m c main_arg3) (place3 t j)

/-- The result array after the run. -/
theorem final (c : Dev nD) : (dats m 0 c).arrAt 4 cfg0.N = whole (m ((c : Thread nD τ).loc main_arg0)) (m ((c : Thread nD τ).loc main_arg1))
    (m ((c : Thread nD τ).loc main_arg2)) (m ((c : Thread nD τ).loc main_arg3)) := by
  have h := blocks4 m c t0_0 (flush0_4 t0_0)
  rw [flushed4_A, body_whole, blk0, blk1, blk2, blk3, V_main_arg0, V_main_arg1, V_main_arg2, V_main_arg3] at h
  funext j
  have hj : (dats m 0 c).arrAt 4 cfg0.N (((cfg0.win 4).blk t0_0).view.emb j) = _ := congrFun h j
  rw [place4] at hj
  exact hj

end Generic

/-- One entry of the reference's result. -/
theorem whole_entry (x : Vec Ideal S4096x4096 .fp8e4m3) (w : Vec Ideal S4096x2048 .fp8e5m2) (sx sw : Vec Ideal S1 .f32) (r : Fin 4096) (l : Fin 2048) :
    whole (F := Ideal) x w sx sw (ValueIdx.ix2 r l)
      = Entry.gate (Entry.scaled (fun k => x (ValueIdx.ix2 r k)) (fun k => w (ValueIdx.ix2 k l)) (sx pt) (sw pt)) := by
  have hd : FloatOps.matmul (F := Ideal) dot_S4096x4096_S4096x2048_S4096x2048_1_0_0_1_n_n none (φ₁ := .f32) (φ₂ := .f32) x w (fun _ => 0) (ValueIdx.ix2 r l)
      = ∑ k : Fin 4096, x (ValueIdx.ix2 r k) * w (ValueIdx.ix2 k l) :=
    (Ideal.matmul_plain_apply (M := 4096) (K := 4096) (N := 2048) (φ₁ := .f32) (φ₂ := .f32) none x w (fun _ => 0) r l).trans (zero_add _)
  rw [← Entry.quotient_gate]
  unfold Entry.scaled
  rw [← hd, ← Entry.ofBits_zero, ← Entry.ofBits_one]
  rfl

end Cert.ReferenceIdeal.Whole

end
-- ==== Proof.Value.Meet.lean ====
/-
  The two programs meet: each device's result is its block of columns of the reference's.
-/
module

public import proofs.«01_k».proof.Defs
public import proofs.«01_k».proof.Proof.Value.Ring
public import proofs.«01_k».proof.Proof.Value.Reference

@[expose] public section

noncomputable section

namespace Cert.Meet

open Idealize.ShloMosaic Idealize.ShloMosaic.TcCoe Idealize.SL.Sem

variable (m : (ℓ : Loc Cert.KernelIdeal.nD Cert.KernelIdeal.τ Cert.KernelIdeal.sig) → Buf (Elt Ideal) ℓ)

/-- Device `c`'s result, its arguments being its parts of whole arrays, is its part of the whole result. -/
theorem result_block (X : Vec Ideal Cert.ReferenceIdeal.S4096x4096 .fp8e4m3) (W : Vec Ideal Cert.ReferenceIdeal.S4096x2048 .fp8e5m2)
    (sx sw : Vec Ideal Cert.ReferenceIdeal.S1 .f32)
    (h0 : ∀ c : Dev Cert.KernelIdeal.nD, m ((c : Thread Cert.KernelIdeal.nD Cert.KernelIdeal.τ).loc Cert.KernelIdeal.main_arg0)
      = Layout.block ⟨2, ![256, 4096]⟩ ⟨2, ![4096, 4096]⟩ 0 16 c X)
    (h1 : ∀ c : Dev Cert.KernelIdeal.nD, m ((c : Thread Cert.KernelIdeal.nD Cert.KernelIdeal.τ).loc Cert.KernelIdeal.main_arg1)
      = Layout.block ⟨2, ![4096, 128]⟩ ⟨2, ![4096, 2048]⟩ 1 16 c W)
    (h2 : ∀ c : Dev Cert.KernelIdeal.nD, m ((c : Thread Cert.KernelIdeal.nD Cert.KernelIdeal.τ).loc Cert.KernelIdeal.main_arg2) = sx)
    (h3 : ∀ c : Dev Cert.KernelIdeal.nD, m ((c : Thread Cert.KernelIdeal.nD Cert.KernelIdeal.τ).loc Cert.KernelIdeal.main_arg3) = sw)
    (c : Dev Cert.KernelIdeal.nD) :
    Cert.KernelIdeal.Ring.finalA (F := Ideal) m c (4 : Fin 5)
      = Layout.block ⟨2, ![4096, 128]⟩ ⟨2, ![4096, 2048]⟩ 1 16 c (Cert.ReferenceIdeal.Whole.whole (F := Ideal) X W sx sw) := by
  funext i
  have hc : c.val < 16 := c.isLt
  obtain ⟨s, z, l, rfl⟩ : ∃ (s : Fin 64) (z : Fin 64) (l : Fin 128), i = ValueIdx.ix2 (⟨64 * s.val + z.val, by omega⟩ : Fin 4096) l := by
    have hi : (i 0).val < 4096 := (i 0).isLt
    refine ⟨⟨(i 0).val / 64, by omega⟩, ⟨(i 0).val % 64, by omega⟩, i 1, (ValueIdx.eq_ix2 i).trans ?_⟩
    exact congrArg (fun r : Fin 4096 => ValueIdx.ix2 r (i 1)) (Fin.ext (Nat.div_add_mod (i 0).val 64).symm)
  have hb : (Layout.block ⟨2, ![4096, 128]⟩ ⟨2, ![4096, 2048]⟩ 1 16 c (Cert.ReferenceIdeal.Whole.whole (F := Ideal) X W sx sw))
        (ValueIdx.ix2 (⟨64 * s.val + z.val, by omega⟩ : Fin 4096) l)
      = Cert.ReferenceIdeal.Whole.whole (F := Ideal) X W sx sw (ValueIdx.ix2 (⟨64 * s.val + z.val, by omega⟩ : Fin 4096) (⟨c.val * 128 + l.val, by omega⟩ : Fin 2048)) :=
    congrArg (Cert.ReferenceIdeal.Whole.whole (F := Ideal) X W sx sw) (funext fun a => by match a with | ⟨0, _⟩ => rfl | ⟨1, _⟩ => rfl)
  refine (Cert.KernelIdeal.Ring.out_entry m c s z l).trans (Eq.symm (hb.trans ?_))
  rw [Cert.ReferenceIdeal.Whole.whole_entry]
  have ex : (fun k : Fin 4096 => X (ValueIdx.ix2 (⟨64 * s.val + z.val, by omega⟩ : Fin 4096) k))
      = fun k => m (((Cert.KernelIdeal.Ring.devOf s : Dev Cert.KernelIdeal.nD) : Thread Cert.KernelIdeal.nD Cert.KernelIdeal.τ).loc Cert.KernelIdeal.main_arg0)
        (ValueIdx.ix2 (⟨64 * (Cert.KernelIdeal.Ring.quarter s).val + z.val, by have := (Cert.KernelIdeal.Ring.quarter s).isLt; omega⟩ : Fin 256) k) := by
    funext k
    rw [h0]
    refine congrArg X (funext fun a => Fin.ext ?_)
    match a with
    | ⟨0, _⟩ => show 64 * s.val + z.val = s.val / 4 * 256 + (64 * (s.val % 4) + z.val); omega
    | ⟨1, _⟩ => rfl
  have ew : (fun k : Fin 4096 => W (ValueIdx.ix2 k (⟨c.val * 128 + l.val, by omega⟩ : Fin 2048)))
      = fun k => m ((c : Thread Cert.KernelIdeal.nD Cert.KernelIdeal.τ).loc Cert.KernelIdeal.main_arg1) (ValueIdx.ix2 k l) := by
    funext k
    rw [h1]
    exact congrArg W (funext fun a => by match a with | ⟨0, _⟩ => rfl | ⟨1, _⟩ => rfl)
  rw [ex, ew, h2, h3]
  rfl

/-- The algebraic claim. -/
theorem algebraic : Cert.algebraic_KernelIdeal_ReferenceIdeal (hKernelIdeal := Cert.KernelIdeal.Gen.facts) (hReferenceIdeal := Cert.ReferenceIdeal.Gen.facts) := by
  intro m g m' g' _ h
  refine ⟨Cert.ReferenceIdeal.Whole.whole (F := Ideal)
    (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3)), ?_, ?_⟩
  · exact (θ_run Cert.KernelIdeal.defs _ _).mono (fun _ hr c => ⟨(hr c).1.trans (result_block m _ _ _ _ (fun c => (h c).1) (fun c => (h c).2.1)
      (fun c => (h c).2.2.1) (fun c => (h c).2.2.2) c), (hr c).2⟩) (Cert.KernelIdeal.Ring.run_out (F := Ideal) m g)
  · exact (θ_run Cert.ReferenceIdeal.defs _ _).mono (fun _ hr => ⟨(hr 0).1.trans (Cert.ReferenceIdeal.Whole.final m' 0), (hr 0).2⟩)
      (Cert.ReferenceIdeal.Value.run_blocks (F := Ideal) m' g')

end Cert.Meet

end
-- ==== Proof.lean ====
/- The claims of this kernel: the two frames of the ring, the reference's own, and the equation of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Value.Meet
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Ring.run_frame (F := Bits) m g,
  fun m g _ => Cert.KernelIdeal.Ring.run_frame (F := Ideal) m g,
  fun m g _ => Cert.ReferenceIdeal.Gen.frame (F := Ideal) m g,
  trivial, Cert.Meet.algebraic⟩

end Cert.Proof

end
